-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scale_and_shift [hPre_finite_scale_and_shift : Cert.Pre_finite_scale_and_shift.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scale_and_shift.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_scale_and_shift.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scale_and_shift [hPre_finite_scale_and_shift : Cert.Pre_finite_scale_and_shift.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scale_and_shift.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_scale_and_shift.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scale_and_shift [hKernelIdeal : Cert.KernelIdeal.Facts] [hPre_finite_scale_and_shift : Cert.Pre_finite_scale_and_shift.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scale_and_shift m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scale_and_shift [hReferenceIdeal : Cert.ReferenceIdeal.Facts] [hPre_finite_scale_and_shift : Cert.Pre_finite_scale_and_shift.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scale_and_shift m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_scale_and_shift [hKernelIdeal : Cert.KernelIdeal.Facts] [hReferenceIdeal : Cert.ReferenceIdeal.Facts] [hPre_finite_scale_and_shift : Cert.Pre_finite_scale_and_shift.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scale_and_shift m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55_7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_scale_and_shift : Cert.Pre_finite_scale_and_shift.Facts),
    quiescent_Kernel (hKernel := hKernel)
    ∧ quiescent_KernelIdeal (hKernelIdeal := hKernelIdeal)
    ∧ quiescent_KernelIdeal_pre_finite_scale_and_shift (hKernelIdeal := hKernelIdeal) (hPre_finite_scale_and_shift := hPre_finite_scale_and_shift)
    ∧ quiescent_ReferenceIdeal (hReferenceIdeal := hReferenceIdeal)
    ∧ quiescent_ReferenceIdeal_pre_finite_scale_and_shift (hReferenceIdeal := hReferenceIdeal) (hPre_finite_scale_and_shift := hPre_finite_scale_and_shift)
    ∧ preserves_Kernel_KernelIdeal
    ∧ algebraic_KernelIdeal_ReferenceIdeal_pre_finite_scale_and_shift (hKernelIdeal := hKernelIdeal) (hReferenceIdeal := hReferenceIdeal) (hPre_finite_scale_and_shift := hPre_finite_scale_and_shift)
-- ==== Pre_finite_scale_and_shift.lean ====
abbrev S32768x128 : Shape := ⟨2, ![32768, 128]⟩
abbrev S32768 : Shape := ⟨1, ![32768]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S32768x128 .f32) (main_arg1 : IVec S32768 32) (main_arg2 : FVec F S128x256 .f32) (main_arg3 : FVec F S256 .f32) (main_arg4 : FVec F S256 .f32) (main_arg5 : FVec F S256x512 .f32) (main_arg6 : FVec F S512 .f32) (main_arg7 : FVec F S512 .f32) (main_arg8 : FVec F S512x2048 .f32) (main_arg9 : FVec F S512x2048 .f32) (main_arg10 : FVec F S2048 .f32) : IVec S512 1 × IVec S512 1 :=
  let main_v0 : FVec F S512 .f32 := Host.absf main_arg6
  let main_cst : FVec F S_ .f32 := constant S_ .f32 0x7F800000#32
  let main_v1 : FVec F S512 .f32 := broadcastInDim S512 ![] bcast_S_S512 main_cst
  let main_v2 : IVec S512 1 := cmpf .olt main_v0 main_v1
  let main_v3 : FVec F S512 .f32 := Host.absf main_arg7
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  (main_v2, main_v5)
-- ==== Kernel.lean ====
abbrev S32768x128 : Shape := ⟨2, ![32768, 128]⟩
abbrev S32768 : Shape := ⟨1, ![32768]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S8x1x4096 : Shape := ⟨3, ![8, 1, 4096]⟩
abbrev S1x256 : Shape := ⟨2, ![1, 256]⟩
abbrev S1x512 : Shape := ⟨2, ![1, 512]⟩
abbrev S512x512 : Shape := ⟨2, ![512, 512]⟩
abbrev S4096x128 : Shape := ⟨2, ![4096, 128]⟩
abbrev S1x1x4096 : Shape := ⟨3, ![1, 1, 4096]⟩
abbrev S4096x256 : Shape := ⟨2, ![4096, 256]⟩
abbrev S4096 : Shape := ⟨1, ![4096]⟩
abbrev S4096x1 : Shape := ⟨2, ![4096, 1]⟩
abbrev S4096x512 : Shape := ⟨2, ![4096, 512]⟩
abbrev S512x4096 : Shape := ⟨2, ![512, 4096]⟩
abbrev S1x4096 : Shape := ⟨2, ![1, 4096]⟩
abbrev S1x2048 : Shape := ⟨2, ![1, 2048]⟩
abbrev S16x512 : Shape := ⟨2, ![16, 512]⟩
abbrev S16x2048 : Shape := ⟨2, ![16, 2048]⟩
abbrev S32x16x512 : Shape := ⟨3, ![32, 16, 512]⟩

abbrev nBuf : Space → Nat
  | .hbm => 20
  | .vmem => 17
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512, .f32⟩
  | .hbm, ⟨8, _⟩ => ⟨S512x2048, .f32⟩
  | .hbm, ⟨9, _⟩ => ⟨S512x2048, .f32⟩
  | .hbm, ⟨10, _⟩ => ⟨S2048, .f32⟩
  | .hbm, ⟨11, _⟩ => ⟨S8x1x4096, .i32⟩
  | .hbm, ⟨12, _⟩ => ⟨S1x256, .f32⟩
  | .hbm, ⟨13, _⟩ => ⟨S1x256, .f32⟩
  | .hbm, ⟨14, _⟩ => ⟨S1x512, .f32⟩
  | .hbm, ⟨15, _⟩ => ⟨S1x512, .f32⟩
  | .hbm, ⟨16, _⟩ => ⟨S512x512, .f32⟩
  | .hbm, ⟨17, _⟩ => ⟨S1x2048, .f32⟩
  | .hbm, ⟨18, _⟩ => ⟨S512x512, .f32⟩
  | .hbm, ⟨19, _⟩ => ⟨S32x16x512, .f32⟩
  | .local _ .vmem, ⟨0, _⟩ => ⟨S4096x128, .f32⟩
  | .local _ .vmem, ⟨1, _⟩ => ⟨S4096x128, .f32⟩
  | .local _ .vmem, ⟨2, _⟩ => ⟨S1x1x4096, .i32⟩
  | .local _ .vmem, ⟨3, _⟩ => ⟨S1x1x4096, .i32⟩
  | .local _ .vmem, ⟨4, _⟩ => ⟨S128x256, .f32⟩
  | .local _ .vmem, ⟨5, _⟩ => ⟨S1x256, .f32⟩
  | .local _ .vmem, ⟨6, _⟩ => ⟨S1x256, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S512x512, .f32⟩
  | .local _ .vmem, ⟨16, _⟩ => ⟨S512x2048, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v83 : BitVec 1 := Scalar.cmpi .eq arg0 c0_i32
  let v84 : BitVec 32 := Scalar.extui v83
  let c0_i32_33 : BitVec 32 := 0#32
  let v85 : BitVec 1 := Scalar.cmpi .ne v84 c0_i32_33
  v85

def k0_cond2 (i : grid0.Coords) : BitVec 1 :=
  let arg0 : BitVec 32 := BitVec.ofNat 32 (i 0).val
  let c0_i32_34 : BitVec 32 := 0#32
  let v86 : BitVec 1 := Scalar.cmpi .sgt arg0 c0_i32_34
  let v87 : BitVec 32 := Scalar.extui v86
  let c0_i32_35 : BitVec 32 := 0#32
  let v88 : BitVec 1 := Scalar.cmpi .ne v87 c0_i32_35
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := .none

@[reducible] def k1_t1_loop : Scf.Loop 32 :=
  let c0_i32 : BitVec 32 := 0#32
  let c32_i32 : BitVec 32 := 32#32
  let v18 : BitVec 32 := Scalar.addi c0_i32 c32_i32
  let c1_i32 : BitVec 32 := 1#32
  ⟨c0_i32, v18, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c16_i32 : BitVec 32 := 16#32
  let v20 : BitVec 32 := Scalar.muli arg6 c16_i32
  let v21 : Index := Scalar.indexCast v20
  let c0_12 : Index := 0#32
  ![v21.toNat, 0]
def k1_off2 (k1_t1 : Fin k1_t1_loop.trips) : Fin 2 → Nat :=
  let c0_i32 : BitVec 32 := 0#32
  let c1_i32 : BitVec 32 := 1#32
  let arg6 : BitVec 32 := Scf.iv c0_i32 c1_i32 k1_t1
  let c16_i32_17 : BitVec 32 := 16#32
  let v44 : BitVec 32 := Scalar.muli arg6 c16_i32_17
  let v45 : Index := Scalar.indexCast v44
  let c0_18 : Index := 0#32
  ![v45.toNat, 0]
abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S32768x128 : Shape := ⟨2, ![32768, 128]⟩
abbrev S32768 : Shape := ⟨1, ![32768]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x2048 : Shape := ⟨2, ![512, 2048]⟩
abbrev S2048 : Shape := ⟨1, ![2048]⟩
abbrev S32768x256 : Shape := ⟨2, ![32768, 256]⟩
abbrev S_ : Shape := ⟨0, ![]⟩
abbrev S32768x1 : Shape := ⟨2, ![32768, 1]⟩
abbrev S1x256 : Shape := ⟨2, ![1, 256]⟩
abbrev S32768x512 : Shape := ⟨2, ![32768, 512]⟩
abbrev S1x512 : Shape := ⟨2, ![1, 512]⟩
abbrev S512x512 : Shape := ⟨2, ![512, 512]⟩
abbrev S32x16x512 : Shape := ⟨3, ![32, 16, 512]⟩
abbrev S16x512 : Shape := ⟨2, ![16, 512]⟩
abbrev S1x16x512 : Shape := ⟨3, ![1, 16, 512]⟩
abbrev S16x2048 : Shape := ⟨2, ![16, 2048]⟩
abbrev S1x2048 : Shape := ⟨2, ![1, 2048]⟩

abbrev nBuf : Space → Nat
  | .hbm => 187
  | .vmem => 0
  | .smem => 0
  | _ => 0

abbrev hbmTy0_0 (i : Nat) : BufTy := match i % 128 with
  | 0 => ⟨S32768x128, .f32⟩
  | 1 => ⟨S32768, .i32⟩
  | 2 => ⟨S128x256, .f32⟩
  | 3 => ⟨S256, .f32⟩
  | 4 => ⟨S256, .f32⟩
  | 5 => ⟨S256x512, .f32⟩
  | 6 => ⟨S512, .f32⟩
  | 7 => ⟨S512, .f32⟩
  | 8 => ⟨S512x2048, .f32⟩
  | 9 => ⟨S512x2048, .f32⟩
  | 10 => ⟨S2048, .f32⟩
  | 11 => ⟨S32768x256, .f32⟩
  | 12 => ⟨S_, .f32⟩
  | 13 => ⟨S32768x256, .f32⟩
  | 14 => ⟨S32768x256, .i1⟩
  | 15 => ⟨S_, .f32⟩
  | 16 => ⟨S32768x256, .f32⟩
  | 17 => ⟨S32768x256, .f32⟩
  | 18 => ⟨S32768x256, .f32⟩
  | 19 => ⟨S_, .f32⟩
  | 20 => ⟨S32768, .f32⟩
  | 21 => ⟨S32768x1, .f32⟩
  | 22 => ⟨S_, .f32⟩
  | 23 => ⟨S32768x1, .f32⟩
  | 24 => ⟨S32768x1, .f32⟩
  | 25 => ⟨S_, .i32⟩
  | 26 => ⟨S_, .f32⟩
  | 27 => ⟨S32768, .f32⟩
  | 28 => ⟨S32768x1, .f32⟩
  | 29 => ⟨S_, .f32⟩
  | 30 => ⟨S32768x1, .f32⟩
  | 31 => ⟨S32768x1, .f32⟩
  | 32 => ⟨S32768x256, .f32⟩
  | 33 => ⟨S32768x256, .f32⟩
  | 34 => ⟨S32768x256, .f32⟩
  | 35 => ⟨S_, .f32⟩
  | 36 => ⟨S_, .f32⟩
  | 37 => ⟨S_, .f32⟩
  | 38 => ⟨S_, .f32⟩
  | 39 => ⟨S32768, .f32⟩
  | 40 => ⟨S32768x1, .f32⟩
  | 41 => ⟨S32768x1, .f32⟩
  | 42 => ⟨S32768x1, .f32⟩
  | 43 => ⟨S_, .f32⟩
  | 44 => ⟨S_, .i1⟩
  | 45 => ⟨S_, .f32⟩
  | 46 => ⟨S_, .f32⟩
  | 47 => ⟨S32768x1, .f32⟩
  | 48 => ⟨S32768x1, .f32⟩
  | 49 => ⟨S32768x256, .f32⟩
  | 50 => ⟨S32768x256, .f32⟩
  | 51 => ⟨S_, .f32⟩
  | 52 => ⟨S32768x1, .f32⟩
  | 53 => ⟨S32768x1, .f32⟩
  | 54 => ⟨S32768x1, .f32⟩
  | 55 => ⟨S32768x256, .f32⟩
  | 56 => ⟨S32768x256, .f32⟩
  | 57 => ⟨S1x256, .f32⟩
  | 58 => ⟨S32768x256, .f32⟩
  | 59 => ⟨S32768x256, .f32⟩
  | 60 => ⟨S1x256, .f32⟩
  | 61 => ⟨S32768x256, .f32⟩
  | 62 => ⟨S32768x256, .f32⟩
  | 63 => ⟨S32768x512, .f32⟩
  | 64 => ⟨S_, .f32⟩
  | 65 => ⟨S32768x512, .f32⟩
  | 66 => ⟨S32768x512, .i1⟩
  | 67 => ⟨S_, .f32⟩
  | 68 => ⟨S32768x512, .f32⟩
  | 69 => ⟨S32768x512, .f32⟩
  | 70 => ⟨S32768x512, .f32⟩
  | 71 => ⟨S_, .f32⟩
  | 72 => ⟨S32768, .f32⟩
  | 73 => ⟨S32768x1, .f32⟩
  | 74 => ⟨S_, .f32⟩
  | 75 => ⟨S32768x1, .f32⟩
  | 76 => ⟨S32768x1, .f32⟩
  | 77 => ⟨S_, .i32⟩
  | 78 => ⟨S_, .f32⟩
  | 79 => ⟨S32768, .f32⟩
  | 80 => ⟨S32768x1, .f32⟩
  | 81 => ⟨S_, .f32⟩
  | 82 => ⟨S32768x1, .f32⟩
  | 83 => ⟨S32768x1, .f32⟩
  | 84 => ⟨S32768x512, .f32⟩
  | 85 => ⟨S32768x512, .f32⟩
  | 86 => ⟨S32768x512, .f32⟩
  | 87 => ⟨S_, .f32⟩
  | 88 => ⟨S_, .f32⟩
  | 89 => ⟨S_, .f32⟩
  | 90 => ⟨S_, .f32⟩
  | 91 => ⟨S32768, .f32⟩
  | 92 => ⟨S32768x1, .f32⟩
  | 93 => ⟨S32768x1, .f32⟩
  | 94 => ⟨S32768x1, .f32⟩
  | 95 => ⟨S_, .f32⟩
  | 96 => ⟨S_, .i1⟩
  | 97 => ⟨S_, .f32⟩
  | 98 => ⟨S_, .f32⟩
  | 99 => ⟨S32768x1, .f32⟩
  | 100 => ⟨S32768x1, .f32⟩
  | 101 => ⟨S32768x512, .f32⟩
  | 102 => ⟨S32768x512, .f32⟩
  | 103 => ⟨S_, .f32⟩
  | 104 => ⟨S32768x1, .f32⟩
  | 105 => ⟨S32768x1, .f32⟩
  | 106 => ⟨S32768x1, .f32⟩
  | 107 => ⟨S32768x512, .f32⟩
  | 108 => ⟨S32768x512, .f32⟩
  | 109 => ⟨S1x512, .f32⟩
  | 110 => ⟨S32768x512, .f32⟩
  | 111 => ⟨S32768x512, .f32⟩
  | 112 => ⟨S1x512, .f32⟩
  | 113 => ⟨S32768x512, .f32⟩
  | 114 => ⟨S32768x512, .f32⟩
  | 115 => ⟨S_, .f32⟩
  | 116 => ⟨S512x512, .f32⟩
  | 117 => ⟨S32768x1, .i32⟩
  | 118 => ⟨S512x512, .f32⟩
  | 119 => ⟨S32x16x512, .f32⟩
  | 120 => ⟨S_, .f32⟩
  | 121 => ⟨S16x512, .f32⟩
  | 122 => ⟨S_, .f32⟩
  | 123 => ⟨S16x512, .f32⟩
  | 124 => ⟨S_, .f32⟩
  | 125 => ⟨S32x16x512, .f32⟩
  | 126 => ⟨S_, .i32⟩
  | 127 => ⟨S32x16x512, .f32⟩
  | _ => ⟨S32768x128, .f32⟩

abbrev hbmTy0_1 (i : Nat) : BufTy := match i % 128 with
  | 0 => ⟨S512x2048, .f32⟩
  | 1 => ⟨S512x2048, .f32⟩
  | 2 => ⟨S2048, .f32⟩
  | 3 => ⟨S_, .i32⟩
  | 4 => ⟨S16x512, .f32⟩
  | 5 => ⟨S16x512, .f32⟩
  | 6 => ⟨S32x16x512, .f32⟩
  | 7 => ⟨S_, .i32⟩
  | 8 => ⟨S_, .i1⟩
  | 9 => ⟨S_, .i32⟩
  | 10 => ⟨S_, .i32⟩
  | 11 => ⟨S1x16x512, .f32⟩
  | 12 => ⟨S16x512, .f32⟩
  | 13 => ⟨S16x2048, .f32⟩
  | 14 => ⟨S16x2048, .f32⟩
  | 15 => ⟨S16x2048, .f32⟩
  | 16 => ⟨S1x2048, .f32⟩
  | 17 => ⟨S16x2048, .f32⟩
  | 18 => ⟨S16x2048, .f32⟩
  | 19 => ⟨S16x512, .f32⟩
  | 20 => ⟨S16x512, .f32⟩
  | 21 => ⟨S16x512, .f32⟩
  | 22 => ⟨S16x512, .f32⟩
  | 23 => ⟨S16x512, .f32⟩
  | 24 => ⟨S16x512, .f32⟩
  | 25 => ⟨S_, .f32⟩
  | 26 => ⟨S16x512, .f32⟩
  | 27 => ⟨S16x512, .f32⟩
  | 28 => ⟨S_, .f32⟩
  | 29 => ⟨S16x512, .f32⟩
  | 30 => ⟨S16x512, .f32⟩
  | 31 => ⟨S16x512, .f32⟩
  | 32 => ⟨S16x512, .f32⟩
  | 33 => ⟨S_, .f32⟩
  | 34 => ⟨S16x512, .f32⟩
  | 35 => ⟨S16x512, .f32⟩
  | 36 => ⟨S_, .f32⟩
  | 37 => ⟨S16x512, .f32⟩
  | 38 => ⟨S16x512, .f32⟩
  | 39 => ⟨S16x512, .f32⟩
  | 40 => ⟨S16x512, .f32⟩
  | 41 => ⟨S16x512, .f32⟩
  | 42 => ⟨S_, .f32⟩
  | 43 => ⟨S16x512, .f32⟩
  | 44 => ⟨S16x512, .f32⟩
  | 45 => ⟨S_, .f32⟩
  | 46 => ⟨S16x512, .f32⟩
  | 47 => ⟨S16x512, .f32⟩
  | 48 => ⟨S16x512, .f32⟩
  | 49 => ⟨S16x512, .f32⟩
  | 50 => ⟨S16x512, .f32⟩
  | 51 => ⟨S16x512, .f32⟩
  | 52 => ⟨S16x512, .f32⟩
  | 53 => ⟨S1x16x512, .f32⟩
  | 54 => ⟨S_, .i32⟩
  | 55 => ⟨S_, .i32⟩
  | 56 => ⟨S32x16x512, .f32⟩
  | 57 => ⟨S_, .i32⟩
  | 58 => ⟨S_, .i32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_cst_3 : Ref sig .tc := ⟨.hbm, 43, rfl⟩
abbrev main_call1_v13 : Ref sig .tc := ⟨.hbm, 44, rfl⟩
abbrev main_call1_cst_4 : Ref sig .tc := ⟨.hbm, 45, rfl⟩
abbrev main_call1_call0_v0 : Ref sig .tc := ⟨.hbm, 46, rfl⟩
abbrev main_call1_call0_v1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_3 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_4 : Ref sig .tc := ⟨.hbm, 64, rfl⟩
abbrev main_v25 : Ref sig .tc := ⟨.hbm, 65, rfl⟩
abbrev main_v26 : Ref sig .tc := ⟨.hbm, 66, rfl⟩
abbrev main_cst_5 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_6 : Ref sig .tc := ⟨.hbm, 71, rfl⟩
abbrev main_v30 : Ref sig .tc := ⟨.hbm, 72, rfl⟩
abbrev main_v31 : Ref sig .tc := ⟨.hbm, 73, rfl⟩
abbrev main_cst_7 : Ref sig .tc := ⟨.hbm, 74, rfl⟩
abbrev main_v32 : Ref sig .tc := ⟨.hbm, 75, rfl⟩
abbrev main_v33 : Ref sig .tc := ⟨.hbm, 76, rfl⟩
abbrev main_c_8 : Ref sig .tc := ⟨.hbm, 77, rfl⟩
abbrev main_call3_cst : Ref sig .tc := ⟨.hbm, 78, rfl⟩
abbrev main_call3_v0 : Ref sig .tc := ⟨.hbm, 79, rfl⟩
abbrev main_call3_v1 : Ref sig .tc := ⟨.hbm, 80, rfl⟩
abbrev main_call3_cst_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_cst_1 : Ref sig .tc := ⟨.hbm, 88, rfl⟩
abbrev main_call3_v8 : Ref sig .tc := ⟨.hbm, 89, rfl⟩
abbrev main_call3_cst_2 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_cst_3 : Ref sig .tc := ⟨.hbm, 95, rfl⟩
abbrev main_call3_v13 : Ref sig .tc := ⟨.hbm, 96, rfl⟩
abbrev main_call3_cst_4 : Ref sig .tc := ⟨.hbm, 97, rfl⟩
abbrev main_call3_call0_v0 : Ref sig .tc := ⟨.hbm, 98, rfl⟩
abbrev main_call3_call0_v1 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_9 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_10 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_cst_11 : Ref sig .tc := ⟨.hbm, 120, rfl⟩
abbrev main_v52 : Ref sig .tc := ⟨.hbm, 121, rfl⟩
abbrev main_cst_12 : Ref sig .tc := ⟨.hbm, 122, rfl⟩
abbrev main_v53 : Ref sig .tc := ⟨.hbm, 123, rfl⟩
abbrev main_cst_13 : Ref sig .tc := ⟨.hbm, 124, rfl⟩
abbrev main_v54 : Ref sig .tc := ⟨.hbm, 125, rfl⟩
abbrev main_c_14 : Ref sig .tc := ⟨.hbm, 126, rfl⟩
abbrev main_v55_0 : Ref sig .tc := ⟨.hbm, 127, rfl⟩
abbrev main_v55_1 : Ref sig .tc := ⟨.hbm, 128, rfl⟩
abbrev main_v55_2 : Ref sig .tc := ⟨.hbm, 129, rfl⟩
abbrev main_v55_3 : Ref sig .tc := ⟨.hbm, 130, rfl⟩
abbrev main_v55_4 : Ref sig .tc := ⟨.hbm, 131, rfl⟩
abbrev main_v55_5 : Ref sig .tc := ⟨.hbm, 132, rfl⟩
abbrev main_v55_6 : Ref sig .tc := ⟨.hbm, 133, rfl⟩
abbrev main_v55_7 : Ref sig .tc := ⟨.hbm, 134, rfl⟩
abbrev main_while0c_c_22 : Ref sig .tc := ⟨.hbm, 135, rfl⟩
abbrev main_while0c_v56 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_call4_v0 : Ref sig .tc := ⟨.hbm, 139, rfl⟩
abbrev main_while0b_v56 : Ref sig .tc := ⟨.hbm, 140, rfl⟩
abbrev main_while0b_v57 : Ref sig .tc := ⟨.hbm, 141, rfl⟩
abbrev main_while0b_v58 : Ref sig .tc := ⟨.hbm, 142, rfl⟩
abbrev main_while0b_v59 : Ref sig .tc := ⟨.hbm, 143, rfl⟩
abbrev main_while0b_v60 : Ref sig .tc := ⟨.hbm, 144, rfl⟩
abbrev main_while0b_v61 : Ref sig .tc := ⟨.hbm, 145, rfl⟩
abbrev main_while0b_v62 : Ref sig .tc := ⟨.hbm, 146, rfl⟩
abbrev main_while0b_v63 : Ref sig .tc := ⟨.hbm, 147, rfl⟩
abbrev main_while0b_v64 : Ref sig .tc := ⟨.hbm, 148, rfl⟩
abbrev main_while0b_v65 : Ref sig .tc := ⟨.hbm, 149, rfl⟩
abbrev main_while0b_v66 : Ref sig .tc := ⟨.hbm, 150, rfl⟩
abbrev main_while0b_v67 : Ref sig .tc := ⟨.hbm, 151, rfl⟩
abbrev main_while0b_v68 : Ref sig .tc := ⟨.hbm, 152, rfl⟩
abbrev main_while0b_cst_22 : Ref sig .tc := ⟨.hbm, 153, rfl⟩
abbrev main_while0b_v69 : Ref sig .tc := ⟨.hbm, 154, rfl⟩
abbrev main_while0b_v70 : Ref sig .tc := ⟨.hbm, 155, rfl⟩
abbrev main_while0b_cst_23 : Ref sig .tc := ⟨.hbm, 156, rfl⟩
abbrev main_while0b_v71 : Ref sig .tc := ⟨.hbm, 157, rfl⟩
abbrev main_while0b_v72 : Ref sig .tc := ⟨.hbm, 158, rfl⟩
abbrev main_while0b_v73 : Ref sig .tc := ⟨.hbm, 159, rfl⟩
abbrev main_while0b_v74 : Ref sig .tc := ⟨.hbm, 160, rfl⟩
abbrev main_while0b_cst_24 : Ref sig .tc := ⟨.hbm, 161, rfl⟩
abbrev main_while0b_v75 : Ref sig .tc := ⟨.hbm, 162, rfl⟩
abbrev main_while0b_v76 : Ref sig .tc := ⟨.hbm, 163, rfl⟩
abbrev main_while0b_cst_25 : Ref sig .tc := ⟨.hbm, 164, rfl⟩
abbrev main_while0b_v77 : Ref sig .tc := ⟨.hbm, 165, rfl⟩
abbrev main_while0b_v78 : Ref sig .tc := ⟨.hbm, 166, rfl⟩
abbrev main_while0b_v79 : Ref sig .tc := ⟨.hbm, 167, rfl⟩
abbrev main_while0b_v80 : Ref sig .tc := ⟨.hbm, 168, rfl⟩
abbrev main_while0b_v81 : Ref sig .tc := ⟨.hbm, 169, rfl⟩
abbrev main_while0b_cst_26 : Ref sig .tc := ⟨.hbm, 170, rfl⟩
abbrev main_while0b_v82 : Ref sig .tc := ⟨.hbm, 171, rfl⟩
abbrev main_while0b_v83 : Ref sig .tc := ⟨.hbm, 172, rfl⟩
abbrev main_while0b_cst_27 : Ref sig .tc := ⟨.hbm, 173, rfl⟩
abbrev main_while0b_v84 : Ref sig .tc := ⟨.hbm, 174, rfl⟩
abbrev main_while0b_v85 : Ref sig .tc := ⟨.hbm, 175, rfl⟩
abbrev main_while0b_v86 : Ref sig .tc := ⟨.hbm, 176, rfl⟩
abbrev main_while0b_v87 : Ref sig .tc := ⟨.hbm, 177, rfl⟩
abbrev main_while0b_v88 : Ref sig .tc := ⟨.hbm, 178, rfl⟩
abbrev main_while0b_v89 : Ref sig .tc := ⟨.hbm, 179, rfl⟩
abbrev main_while0b_v90 : Ref sig .tc := ⟨.hbm, 180, rfl⟩
abbrev main_while0b_call5_v0 : Ref sig .tc := ⟨.hbm, 181, rfl⟩
abbrev main_while0b_call5_c : Ref sig .tc := ⟨.hbm, 182, rfl⟩
abbrev main_while0b_call5_c_0 : Ref sig .tc := ⟨.hbm, 183, rfl⟩
abbrev main_while0b_v91 : Ref sig .tc := ⟨.hbm, 184, rfl⟩
abbrev main_while0b_c_28 : Ref sig .tc := ⟨.hbm, 185, rfl⟩
abbrev main_while0b_v92 : Ref sig .tc := ⟨.hbm, 186, rfl⟩

abbrev nD : Nat := 1
abbrev τ : Topo := Topo.v7x

variable {F : FTy → Type} [FloatOps F]

abbrev main_while0_count : Scf.Loop 32 := ⟨0#32, 32#32, 1#32⟩
-- ==== Proof.KernelIdealRun.lean ====
/- The run of `KernelIdeal`'s @main: two pallas_calls among three stretches of host operations.
   Part one, for each call at any contents `V` it may be entered from: the block each window holds at a point, the body run on
   whole staging buffers, what the output's buffer holds after each point (for the first call an accumulation over its eight
   points, `outsAt0`), and the obligation that the body leaves just that.
   Part two: the contents of every buffer at each boundary between the stretches and the calls (`W0` .. `W5`), the calls as
   segments over "every unscoped buffer at the boundary's contents", and the run from the launch to the return (`run`, `frame`). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.Pipeline.TableIdle
public import Idealize.ShloMosaic.Lib.WordCmp

@[expose] public section

-- the long axes' coordinates recurse past the default depth
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__embed_pool_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`):
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`):
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`):
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`):
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Whether output 8's buffer is fresh at each position `1 ‥ N` — holds nothing the body stored since the region's entry or the
    last write-back (written back at the point before, or idle there and fresh before it) —, as a bitmask,
    bit `n` for position `n + 1`; position 0 is fresh. `freshTab0_8_step` checks it against the configuration's own
    step point by point and `Cfg.fresh_tab` makes it `Cfg.fresh` (`fresh0_8_eq`). -/
def freshTab0_8 : ℕ → Bool
  | 0 => true
  | n + 1 => (0x80 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 live: the case stores into it. -/
theorem liveAt0_8_B : ∀ t : Fin cfg0.N, ¬cond0_0 (grid0.coords t) → cond0_1 (grid0.coords t) → cfg0.idle 8 (grid0.coords t) = false := by decide +kernel
/-- At the points of case B, which keeps output 8's prior contents (reads it before covering, or covers it in part), the
    window's buffer is not fresh: something was stored into it since the region's entry or its last write-back, idle points
    between or not. -/
theorem notFresh0_8_B : ∀ t : Fin cfg0.N, ¬cond0_0 (grid0.coords t) → cond0_1 (grid0.coords t) → cfg0.fresh 8 t.val = false := by
  intro t; rw [fresh0_8_eq t]; revert t; decide +kernel

/-! ## The kernel body on any staging memrefs: a subtype the run finds -/

/-- One staging buffer of output window 8, through which its contents are stated (`View.read_writes_of_cover`: the
    choice does not matter). -/
abbrev VO0_8 : View sig .tc .vmem S512x512 .f32 := (Memref.whole cc0_stg8_0 : Memref sig .tc .vmem S512x512 .f32).view
/-- Each window's current staging memref at point `t`, spelled as the pipeline passes it (`bodyAt0`), and its wholeness. -/
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)

-- the run's proof term is large
set_option maxHeartbeats 1000000 in
/-- What the body's stores leave in each output's staging memref, as pieces (last first), in case A (the first
    branch taken, the second not: point 0), with the
    proof that on whole staging memrefs — the inputs' at their contents, the other outputs' at
    anything, the body runs to the continuation holding the inputs' as they were,
    each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S4096x128 .f32) (harg1 : arg1.IsWhole) (arg2 : Memref sig .tc .vmem S1x1x4096 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (hc0 : cond0_0 i) (hc1 : ¬cond0_1 i)
    (x0 : Vec F S4096x128 .f32) (x1 : Vec F S1x1x4096 .i32) (x2 : Vec F S128x256 .f32) (x3 : Vec F S1x256 .f32) (x4 : Vec F S1x256 .f32) (x5 : Vec F S256x512 .f32) (x6 : Vec F S1x512 .f32) (x7 : Vec F S1x512 .f32) :
    { L8 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc0__embed_pool_kernel i arg1 harg1 arg2 harg2 arg3 harg3 arg4 harg4 arg5 harg5 arg6 harg6 arg7 harg7 arg8 harg8 arg9 harg9) K } := by
  refine ⟨?_, fun E K => ?run⟩
  case run =>
    simp only [cc0__embed_pool_kernel_eq_skeleton]; unfold cc0__embed_pool_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- Case A's pieces for output 8 tile its block (1 store of `S512x512`, checked by the kernel's evaluation: `Piece.tiledL`, linear in the pieces, through a loop's `@[irreducible]` trip theorem too), so they cover it. -/
theorem cover0_A_8 (c : Dev nD) (i : grid0.Coords) (arg1 : Memref sig .tc .vmem S4096x128 .f32) (harg1 : arg1.IsWhole) (arg2 : Memref sig .tc .vmem S1x1x4096 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (hc0 : cond0_0 i) (hc1 : ¬cond0_1 i)
    (x0 : Vec F S4096x128 .f32) (x1 : Vec F S1x1x4096 .i32) (x2 : Vec F S128x256 .f32) (x3 : Vec F S1x256 .f32) (x4 : Vec F S1x256 .f32) (x5 : Vec F S256x512 .f32) (x6 : Vec F S1x512 .f32) (x7 : Vec F S1x512 .f32) (y : S512x512.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5 x6 x7).1 S512x512.size (by sl_kernel_rfl) y

/-- What case A leaves in output 8's staging buffer: its pieces read back over junk. -/
def out0_A_8 (c : Dev nD) (i : grid0.Coords) (arg1 : Memref sig .tc .vmem S4096x128 .f32) (harg1 : arg1.IsWhole) (arg2 : Memref sig .tc .vmem S1x1x4096 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (hc0 : cond0_0 i) (hc1 : ¬cond0_1 i)
    (x0 : Vec F S4096x128 .f32) (x1 : Vec F S1x1x4096 .i32) (x2 : Vec F S128x256 .f32) (x3 : Vec F S1x256 .f32) (x4 : Vec F S1x256 .f32) (x5 : Vec F S256x512 .f32) (x6 : Vec F S1x512 .f32) (x7 : Vec F S1x512 .f32) : Vec F S512x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 hc1 x0 x1 x2 x3 x4 x5 x6 x7).1)

-- the run's proof term is large
set_option maxHeartbeats 1000000 in
/-- What the body's stores leave in each output's staging memref, as pieces (last first), in case B (the first
    branch not taken, the second taken: points 1 to 7), with the
    proof that on whole staging memrefs — the inputs' at their contents, the outputs it reads before covering (8) at their running contents `xo·`, the other outputs' at
    anything, the body runs to the continuation holding the inputs' as they were,
    each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S4096x128 .f32) (harg1 : arg1.IsWhole) (arg2 : Memref sig .tc .vmem S1x1x4096 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (hc0 : ¬cond0_0 i) (hc1 : cond0_1 i)
    (x0 : Vec F S4096x128 .f32) (x1 : Vec F S1x1x4096 .i32) (x2 : Vec F S128x256 .f32) (x3 : Vec F S1x256 .f32) (x4 : Vec F S1x256 .f32) (x5 : Vec F S256x512 .f32) (x6 : Vec F S1x512 .f32) (x7 : Vec F S1x512 .f32) (xo8 : Vec F S512x512 .f32) :
    { L8 : List (View.Piece (Elt F) S512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc0__embed_pool_kernel i arg1 harg1 arg2 harg2 arg3 harg3 arg4 harg4 arg5 harg5 arg6 harg6 arg7 harg7 arg8 harg8 arg9 harg9) K } := by
  refine ⟨?_, fun E K => ?run⟩
  case run =>
    simp only [cc0__embed_pool_kernel_eq_skeleton]; unfold cc0__embed_pool_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

/-- Case B's pieces for output 8 tile its block (1 store of `S512x512`, checked by the kernel's evaluation: `Piece.tiledL`, linear in the pieces, through a loop's `@[irreducible]` trip theorem too), so they cover it. -/
theorem cover0_B_8 (c : Dev nD) (i : grid0.Coords) (arg1 : Memref sig .tc .vmem S4096x128 .f32) (harg1 : arg1.IsWhole) (arg2 : Memref sig .tc .vmem S1x1x4096 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (hc0 : ¬cond0_0 i) (hc1 : cond0_1 i)
    (x0 : Vec F S4096x128 .f32) (x1 : Vec F S1x1x4096 .i32) (x2 : Vec F S128x256 .f32) (x3 : Vec F S1x256 .f32) (x4 : Vec F S1x256 .f32) (x5 : Vec F S256x512 .f32) (x6 : Vec F S1x512 .f32) (x7 : Vec F S1x512 .f32) (xo8 : Vec F S512x512 .f32) (y : S512x512.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5 x6 x7 xo8).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5 x6 x7 xo8).1 S512x512.size (by sl_kernel_rfl) y

/-- What case B leaves in output 8's staging buffer: its pieces read back over junk. -/
def out0_B_8 (c : Dev nD) (i : grid0.Coords) (arg1 : Memref sig .tc .vmem S4096x128 .f32) (harg1 : arg1.IsWhole) (arg2 : Memref sig .tc .vmem S1x1x4096 .i32) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (hc0 : ¬cond0_0 i) (hc1 : cond0_1 i)
    (x0 : Vec F S4096x128 .f32) (x1 : Vec F S1x1x4096 .i32) (x2 : Vec F S128x256 .f32) (x3 : Vec F S1x256 .f32) (x4 : Vec F S1x256 .f32) (x5 : Vec F S256x512 .f32) (x6 : Vec F S1x512 .f32) (x7 : Vec F S1x512 .f32) (xo8 : Vec F S512x512 .f32) : Vec F S512x512 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 hc1 x0 x1 x2 x3 x4 x5 x6 x7 xo8).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S512x512 .f32
  | 0, hn => out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩)
  | n + 1, hn =>
    if h0 : (n + 1) % 8 = 0 then
      if h1 : 1 ≤ (n + 1) then
        False.elim (by have hN : n + 1 < 8 := lt_of_lt_of_eq hn (show cfg0.N = 8 from N_0); omega)
      else
        out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩)
    else
      if h1 : 1 ≤ (n + 1) then
        out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (outsAt0 c n (Nat.lt_of_succ_lt hn))
      else
        False.elim (by have hN : n + 1 < 8 := lt_of_lt_of_eq hn (show cfg0.N = 8 from N_0); omega)

/-- `outsAt0` at a point of case A: that case's contents. -/
theorem outsAt0_A (c : Dev nD) (t : Fin cfg0.N) (h0 : t.val % 8 = 0) (h1 : ¬1 ≤ t.val) :
    outsAt0 V c t.val t.isLt = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : 1 ≤ t.val) :
    outsAt0 V c t.val t.isLt = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant holds the
    scoped buffers that are no staging buffer and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- Output 8's contents CARRY through the points that leave it idle: at such a point, its buffer not fresh, the proof data's
    `after` is the point before's (the case there stores nothing into the window and its term says so; a case that stores
    into it is not idle there by `liveAt0_8_κ`) — the hypothesis of `Dat.before_out_traj`. -/
theorem hcarry0_8 (c : Dev nD) : ∀ (t : Fin cfg0.N) (_ : t.val ≠ 0), cfg0.idle 8 (grid0.coords t) = true → cfg0.fresh 8 t.val = false →
    (dat0 V c).after 8 t = (dat0 V c).after 8 ⟨t.val - 1, by omega⟩ := by
  intro t _ hi _
  have hN : t.val < 8 := lt_of_lt_of_eq t.isLt (show cfg0.N = 8 from N_0)
  rw [after0_8, after0_8]
  by_cases h0 : t.val % 8 = 0
  · by_cases h1 : 1 ≤ t.val
    · exfalso; omega
    · rw [liveAt0_8_A t ((hcond0_0 t).mpr h0) (fun h => h1 ((hcond0_1 t).mp h))] at hi
      exact absurd hi Bool.false_ne_true
  · by_cases h1 : 1 ≤ t.val
    · rw [liveAt0_8_B t (fun h => h0 ((hcond0_0 t).mp h)) ((hcond0_1 t).mpr h1)] at hi
      exact absurd hi Bool.false_ne_true
    · exfalso; omega
/-- At a point of case B output 8's current staging buffer holds what the point before left: the buffer is not fresh
    there (`notFresh0_8_B`: stored into since the region's entry or the last write-back, carried through the points that
    leave it idle by `hcarry0_8`; `Dat.before_out_traj`). -/
theorem before0_8_B (c : Dev nD) (t : Fin cfg0.N) (h0 : ¬t.val % 8 = 0) (h1 : 1 ≤ t.val) (d) :
    (dat0 V c).before 8 t d = (outsAt0 V c (t.val - 1) (Nat.lt_of_le_of_lt (Nat.sub_le _ _) t.isLt)) := by
  rw [Dat.before_out_traj _ 8 rfl (fun _ _ => rfl) (hcarry0_8 V c) t.val t rfl d,
    if_neg (by rw [notFresh0_8_B t (fun h => h0 ((hcond0_0 t).mp h)) ((hcond0_1 t).mpr h1)]; exact Bool.false_ne_true)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl]
  have hN : t.val < 8 := lt_of_lt_of_eq t.isLt (show cfg0.N = 8 from N_0)
  by_cases h0 : t.val % 8 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8_A t ((hcond0_0 t).mpr h0) (fun h => h1 ((hcond0_1 t).mp h))], after0_8]
      rw [outsAt0_A V c t h0 h1]
      unfold out0_A_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8_B t (fun h => h0 ((hcond0_0 t).mp h)) ((hcond0_1 t).mpr h1)], after0_8]
      rw [outsAt0_B V c t h0 h1]
      simp only [before0_8_B V c t h0 h1]
      unfold out0_B_8
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iintro ⟨H0, H1, H2, H3, H4, H5, H6, H7, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__lstm_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`):
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S512x512 .f32 := (Memref.whole cc1_stg4_0 : Memref sig .tc .vmem S512x512 .f32).view
/-- Each window's current staging memref at point `t`, spelled as the pipeline passes it (`bodyAt1`), and its wholeness. -/
abbrev ms1_0 (t : Fin cfg1.N) : Memref sig .tc .vmem S512x512 .f32 := win1_0.stage (cfg1.slots t 0)
abbrev hs1_0 (t : Fin cfg1.N) : (ms1_0 t).IsWhole := hstage1_0 0
abbrev ms1_1 (t : Fin cfg1.N) : Memref sig .tc .vmem S512x2048 .f32 := win1_1.stage (cfg1.slots t 1)
abbrev hs1_1 (t : Fin cfg1.N) : (ms1_1 t).IsWhole := hstage1_1 0
abbrev ms1_2 (t : Fin cfg1.N) : Memref sig .tc .vmem S512x2048 .f32 := win1_2.stage (cfg1.slots t 2)
abbrev hs1_2 (t : Fin cfg1.N) : (ms1_2 t).IsWhole := hstage1_2 0
abbrev ms1_3 (t : Fin cfg1.N) : Memref sig .tc .vmem S1x2048 .f32 := win1_3.stage (cfg1.slots t 3)
abbrev hs1_3 (t : Fin cfg1.N) : (ms1_3 t).IsWhole := hstage1_3 0
abbrev ms1_4 (t : Fin cfg1.N) : Memref sig .tc .vmem S512x512 .f32 := win1_4.stage (cfg1.slots t 4)
abbrev hs1_4 (t : Fin cfg1.N) : (ms1_4 t).IsWhole := hstage1_4 0
/-- The scratch operands: whole scoped buffers of the kernel's own, passed beside the windows. -/
abbrev scM1_0 : Memref sig .tc .vmem S512x2048 .f32 := Memref.whole cc1_scratch0

/-- The pipeline's invariant with the scratch operands as memrefs owned at some contents (`scopedRest1_eq`,
    `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ d, owns (c : Thread nD τ) scM1_0 fullShare d)) ∗ (∃ r, prngReg c r)) := by
  unfold Pipeline.ΦA; rw [scopedRest1_eq]; simp only [scM1_0, owns_whole]; try rfl

-- the run's proof term is large
set_option maxHeartbeats 1000000 in
/-- What the body's stores leave in each output's staging memref, as pieces (last first), with the
    proof that on whole staging memrefs — the inputs' at their contents, the other outputs' at
    anything, the scratch buffers at anything, the body runs to the continuation holding the inputs' as they were,
    the scratch at some contents, each output's buffer with its pieces written: the printed functions are their skeletons
    (`*_eq_skeleton`), which `sl_exec` runs; the pieces are
    the witness that run finds (assigned when `iexact` hands the buffer to the continuation). -/
noncomputable def kernelRun1_A (c : Dev nD) (arg0 : Memref sig .tc .vmem S512x512 .f32) (harg0 : arg0.IsWhole) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x512 .f32) (harg4 : arg4.IsWhole) (arg5 : Memref sig .tc .vmem S512x2048 .f32) (harg5 : arg5.IsWhole)
    (x0 : Vec F S512x512 .f32) (x1 : Vec F S512x2048 .f32) (x2 : Vec F S512x2048 .f32) (x3 : Vec F S1x2048 .f32) :
    { L4 : List (View.Piece (Elt F) S512x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ d, owns (c : Thread nD τ) arg5 fullShare d)) -∗ K ⟨⟩))
          ⊢ wp frame (wpE (defs₀ (F := F)) Variants.none c none) E (cc1__lstm_kernel arg0 harg0 arg1 harg1 arg2 harg2 arg3 harg3 arg4 harg4 arg5 harg5) K } := by
  refine ⟨?_, fun E K => ?run⟩
  case run =>
    simp only [cc1__lstm_kernel_eq_skeleton]; unfold cc1__lstm_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _, _; isplitr; swap; · iexact HS0
    ipureintro; rfl

/-- The run's pieces for output 4 tile its block (32 stores of `S16x512`, checked by the kernel's evaluation: `Piece.tiledL`, linear in the pieces, through a loop's `@[irreducible]` trip theorem too), so they cover it. -/
theorem cover1_A_4 (c : Dev nD) (arg0 : Memref sig .tc .vmem S512x512 .f32) (harg0 : arg0.IsWhole) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x512 .f32) (harg4 : arg4.IsWhole) (arg5 : Memref sig .tc .vmem S512x2048 .f32) (harg5 : arg5.IsWhole)
    (x0 : Vec F S512x512 .f32) (x1 : Vec F S512x2048 .f32) (x2 : Vec F S512x2048 .f32) (x3 : Vec F S1x2048 .f32) (y : S512x512.Idx) :
    ∃ pc ∈ (kernelRun1_A c arg0 harg0 arg1 harg1 arg2 harg2 arg3 harg3 arg4 harg4 arg5 harg5 x0 x1 x2 x3).1, y ∈ pc.1.set :=
  View.cover_of_tiledL (kernelRun1_A c arg0 harg0 arg1 harg1 arg2 harg2 arg3 harg3 arg4 harg4 arg5 harg5 x0 x1 x2 x3).1 S16x512.size (by sl_kernel_rfl) y

/-- What the run leaves in output 4's staging buffer: its pieces read back over junk. -/
def out1_A_4 (c : Dev nD) (arg0 : Memref sig .tc .vmem S512x512 .f32) (harg0 : arg0.IsWhole) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x512 .f32) (harg4 : arg4.IsWhole) (arg5 : Memref sig .tc .vmem S512x2048 .f32) (harg5 : arg5.IsWhole)
    (x0 : Vec F S512x512 .f32) (x1 : Vec F S512x2048 .f32) (x2 : Vec F S512x2048 .f32) (x3 : Vec F S1x2048 .f32) : Vec F S512x512 .f32 :=
  VO1_4.read (Elt F) (VO1_4.writes (Elt F) VO1_4.junk (kernelRun1_A c arg0 harg0 arg1 harg1 arg2 harg2 arg3 harg3 arg4 harg4 arg5 harg5 x0 x1 x2 x3).1)

/-! ## What the outputs hold after each point -/

/-- What the outputs' staging buffers hold after the body at point `t`: the run's contents at
    the point's memrefs and input blocks. -/
def outsAt1 (c : Dev nD) (t : Fin cfg1.N) : Vec F S512x512 .f32 :=
  out1_A_4 c (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant holds the
    scoped buffers that are no staging buffer and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  unfold outsAt1
  unfold out1_A_4
  iintro ⟨⟨⟨HR0, HR1, HR2, HR3, HR4, HR5, HR6, HR7, HR8, HR9, HR10, HS0⟩, Hg⟩, Ho, ⟨%d0, H0⟩, ⟨%d1, H1⟩, ⟨%d2, H2⟩, ⟨%d3, H3⟩, ⟨%d4, H4⟩⟩
  iapply ((kernelRun1_A c _ _ _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HR0 HR1 HR2 HR3 HR4 HR5 HR6 HR7 HR8 HR9 HR10 HS0 Hg]
  · isplitl [HR0 HR1 HR2 HR3 HR4 HR5 HR6 HR7 HR8 HR9 HR10 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the run ends at it beside the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- the pinned configuration has to be unfolded in the types of the lemmas applied below
set_option backward.isDefEq.respectTransparency.types false in
/-- Region 0 (custom_call 0) over the thread state: entered from every unscoped buffer at `W1`, left at `W2`
    (what the next segment is entered from). Its arrays split out of the unscoped buffers
    (`arrays_of_unscopedBufs`) and put back at the exit contents (`unscopedBufs_of_arrays`); the generator register into the
    pipeline's invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration has to be unfolded in the types of the lemmas applied below
set_option backward.isDefEq.respectTransparency.types false in
/-- Region 1 (custom_call 1) over the thread state: entered from every unscoped buffer at `W3`, left at `W4`
    (what the next segment is entered from). Its arrays split out of the unscoped buffers
    (`arrays_of_unscopedBufs`) and put back at the exit contents (`unscopedBufs_of_arrays`); the generator register into the
    pipeline's invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments: `main_chain`, and that chain is the segments' run by computation. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the same for the lemma on the run
set_option backward.isDefEq.respectTransparency.types false in
/-- The run: from any memory with zero counters every weakly fair execution of @main terminates with no fault, and at the end
    every unscoped buffer holds the last boundary's contents `W5` and every semaphore counter is zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- What the run says of the arguments: each ends as launched. -/
theorem args_of_run {s : MemSt nD τ sig (Elt F)} {c : Dev nD}
    (h : ∀ b ∈ Pipeline.ucRefs τ sig, s.mem ((c : Thread nD τ).1, b) = W5 m ρ c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10) :=
  have key : ∀ a ∈ argRefs, ¬ (Proc.devRef .tc a : DevRef τ sig).isScoped →
      s.mem ((c.tc : Thread nD τ).loc a) = m ((c.tc : Thread nD τ).loc a) := fun a ha hs => (h _ (mem_uc a hs)).trans (W5_args m ρ c a ha)
  ⟨key main_arg0 (by decide) (by decide), key main_arg1 (by decide) (by decide), key main_arg2 (by decide) (by decide), key main_arg3 (by decide) (by decide), key main_arg4 (by decide) (by decide), key main_arg5 (by decide) (by decide), key main_arg6 (by decide) (by decide), key main_arg7 (by decide) (by decide), key main_arg8 (by decide) (by decide), key main_arg9 (by decide) (by decide), key main_arg10 (by decide) (by decide)⟩

/-- THE FRAME: every execution terminates, the arguments end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => args_of_run m ρ (h.1 c), h.2⟩) (run m ρ)

end Cert.KernelIdeal.Whole

end
-- ==== Proof.Maths.lean ====
/- The mathematics both programs compute, over plain functions into the extended reals: no array shapes and no programs here.
   A row of observations is embedded by two dense layers, each followed by the leaky rectifier and a layer normalisation; the
   embeddings of the rows of one segment are added up; an LSTM cell runs over the pooled rows. -/
module

public import Idealize.ShloMosaic.PureOps.Ideal

@[expose] public section

noncomputable section

namespace Cert.Maths

open Idealize.ShloMosaic

/-! ## One row's embedding -/

/-- The leaky rectifier: what is not below zero stays, what is below is scaled by the literal 0.1. -/
def leaky (x : EReal) : EReal := if 0 ≤ x then x else Ideal.ofBits .f32 0x3DCCCCCD#32 * x

/-- The sum of a row's entries over the literal that states their number. -/
def mean {n : ℕ} (N : EReal) (h : Fin n → EReal) : EReal := Ideal.div (∑ k, h k) N

/-- The mean of the squared distances from the mean. -/
def variance {n : ℕ} (N : EReal) (h : Fin n → EReal) : EReal := mean N fun k => (h k - mean N h) * (h k - mean N h)

/-- A row's entry normalised: its distance from the mean over the square root of the variance and the literal 1e-5. -/
def normed {n : ℕ} (N : EReal) (h : Fin n → EReal) (k : Fin n) : EReal :=
  Ideal.div (h k - mean N h) (Ideal.sqrt (variance N h + Ideal.ofBits .f32 0x3727C5AC#32))

/-- Layer normalisation of a row with gain `g` and shift `b`. -/
def lnorm {n : ℕ} (N : EReal) (h g b : Fin n → EReal) (k : Fin n) : EReal := normed N h k * g k + b k

/-- A dense layer without shift: entry `k` of the row times a matrix. -/
def dense {n p : ℕ} (x : Fin n → EReal) (W : Fin n → Fin p → EReal) (k : Fin p) : EReal := ∑ a, x a * W a k

/-- The embedding of a row of observations. -/
def embed {n p q : ℕ} (W₁ : Fin n → Fin p → EReal) (g₁ b₁ : Fin p → EReal) (W₂ : Fin p → Fin q → EReal) (g₂ b₂ : Fin q → EReal)
    (N₁ N₂ : EReal) (x : Fin n → EReal) : Fin q → EReal :=
  lnorm N₂ (fun k => leaky (dense (lnorm N₁ (fun k => leaky (dense x W₁ k)) g₁ b₁) W₂ k)) g₂ b₂

/-- The pooled row `s`: the embeddings `e` of the rows whose segment number is `s`, added up. -/
def pooled {n p q : ℕ} (seg : Fin n → BitVec 32) (e : Fin n → Fin q → EReal) (s : Fin p) (k : Fin q) : EReal :=
  ∑ r, if seg r = BitVec.ofNat 32 s.val then e r k else 0

/-- A sum over `a` blocks of `b` entries is the sum over all the entries. -/
theorem sum_blocks {a b : ℕ} (f : Fin (a * b) → EReal) :
    ∑ t : Fin a, ∑ r : Fin b, f ⟨b * t.val + r.val, by
      have := t.isLt; have := r.isLt
      calc b * t.val + r.val < b * t.val + b := by omega
        _ = b * (t.val + 1) := by ring
        _ ≤ b * a := Nat.mul_le_mul_left _ (by omega)
        _ = a * b := Nat.mul_comm _ _⟩ = ∑ i, f i := by
  rw [← finProdFinEquiv.sum_comp, Fintype.sum_prod_type]
  exact Finset.sum_congr rfl fun t _ => Finset.sum_congr rfl fun r _ => congrArg f (Fin.ext (Nat.add_comm _ _))

/-! ## A normalised row is finite -/

/-- An extended real that is the image of a real. -/
def Finite (x : EReal) : Prop := x ≠ ⊤ ∧ x ≠ ⊥

/-- A real is finite. -/
theorem Finite.coe (r : ℝ) : Finite (r : EReal) := ⟨EReal.coe_ne_top r, EReal.coe_ne_bot r⟩

/-- A finite value is a real. -/
theorem Finite.exists {x : EReal} (h : Finite x) : ∃ r : ℝ, x = r := ⟨x.toReal, (EReal.coe_toReal h.1 h.2).symm⟩

/-- A product of finite values is finite. -/
theorem Finite.mul {x y : EReal} (hx : Finite x) (hy : Finite y) : Finite (x * y) := by
  obtain ⟨a, rfl⟩ := hx.exists; obtain ⟨b, rfl⟩ := hy.exists
  rw [← EReal.coe_mul]; exact .coe _

/-- A sum of finite values is finite. -/
theorem Finite.add {x y : EReal} (hx : Finite x) (hy : Finite y) : Finite (x + y) := by
  obtain ⟨a, rfl⟩ := hx.exists; obtain ⟨b, rfl⟩ := hy.exists
  rw [← EReal.coe_add]; exact .coe _

/-- A finite value less itself is zero. -/
theorem Finite.sub_self {x : EReal} (hx : Finite x) : x - x = 0 := EReal.sub_self hx.1 hx.2

/-- An extended real times itself is not negative. -/
theorem mul_self_nonneg (x : EReal) : 0 ≤ x * x := by
  induction x with
  | bot => simp
  | top => simp
  | coe r => rw [← EReal.coe_mul]; exact EReal.coe_nonneg.mpr (_root_.mul_self_nonneg r)

/-- An infinite extended real times itself is `⊤`. -/
theorem mul_self_of_not_finite {x : EReal} (h : ¬ Finite x) : x * x = ⊤ := by
  induction x with
  | bot => simp
  | top => simp
  | coe r => exact absurd (.coe r) h

/-- A sum of entries that are not negative, one of which is `⊤`, is `⊤`. -/
theorem sum_eq_top {n : ℕ} {f : Fin n → EReal} (h0 : ∀ k, 0 ≤ f k) {k : Fin n} (hk : f k = ⊤) : ∑ a, f a = ⊤ :=
  top_le_iff.mp (hk ▸ Finset.single_le_sum (fun a _ => h0 a) (Finset.mem_univ k))

/-- A sum of finite entries is finite. -/
theorem Finite.sum {n : ℕ} {f : Fin n → EReal} (h : ∀ k, Finite (f k)) : Finite (∑ a, f a) := by
  choose r hr using fun k => (h k).exists
  rw [show f = fun k => (r k : EReal) from funext hr]
  rw [show (∑ a, (r a : EReal)) = ((∑ a, r a : ℝ) : EReal) from (map_sum (⟨⟨(↑), EReal.coe_zero⟩, EReal.coe_add⟩ : ℝ →+ EReal) r Finset.univ).symm]
  exact .coe _

/-- The quotient of a finite entry by a positive real is finite. -/
theorem Finite.div {x : EReal} (h : Finite x) {r : ℝ} (hr : 0 < r) : Finite (Ideal.div x r) := by
  obtain ⟨a, rfl⟩ := h.exists
  rw [Ideal.div, if_neg (EReal.coe_ne_zero.mpr hr.ne'), ← EReal.coe_inv, ← EReal.coe_mul]
  exact .coe _

/-- Whatever the row holds, infinite entries included, a normalised entry is finite: with all the distances from the mean
    finite the square root is a positive real, and with one of them infinite the square root is `⊤` and the quotient zero. -/
theorem finite_normed {n : ℕ} {N ε : ℝ} (hN : 0 < N) (hε : 0 < ε) (he : Ideal.ofBits .f32 0x3727C5AC#32 = (ε : EReal))
    (h : Fin n → EReal) (k : Fin n) : Finite (normed N h k) := by
  unfold normed variance
  rw [he]
  generalize mean N h = μ
  by_cases hf : ∀ a, Finite (h a - μ)
  · obtain ⟨v, hv⟩ := (Finite.div (Finite.sum fun a => (hf a).mul (hf a)) hN).exists
    have h0 : 0 ≤ v := by
      have : (0 : EReal) ≤ Ideal.div (∑ a, (h a - μ) * (h a - μ)) N := by
        rw [Ideal.div, if_neg (EReal.coe_ne_zero.mpr hN.ne'), ← EReal.coe_inv]
        exact mul_nonneg (Finset.sum_nonneg fun a _ => mul_self_nonneg _) (EReal.coe_nonneg.mpr (inv_nonneg.mpr hN.le))
      rw [hv] at this; exact EReal.coe_nonneg.mp this
    rw [mean, hv, ← EReal.coe_add]
    have hs : Ideal.sqrt ((v + ε : ℝ) : EReal) = ((Real.sqrt (v + ε) : ℝ) : EReal) := by
      show (if v + ε < 0 then (⊥ : EReal) else ((Real.sqrt (v + ε) : ℝ) : EReal)) = _
      rw [if_neg (not_lt.mpr (add_nonneg h0 hε.le))]
    rw [hs]
    exact (hf k).div (Real.sqrt_pos.mpr (by linarith))
  · obtain ⟨a, ha⟩ := not_forall.mp hf
    have hm : mean N (fun a => (h a - μ) * (h a - μ)) = ⊤ := by
      rw [mean, sum_eq_top (f := fun a => (h a - μ) * (h a - μ)) (fun a => mul_self_nonneg _) (mul_self_of_not_finite ha), Ideal.div,
        if_neg (EReal.coe_ne_zero.mpr hN.ne'), ← EReal.coe_inv]
      exact EReal.top_mul_coe_of_pos (inv_pos.mpr hN)
    rw [hm, EReal.top_add_coe]
    have hs : Ideal.sqrt ⊤ = ⊤ := rfl
    rw [hs, Ideal.div, if_neg (by simp), EReal.inv_top, mul_zero]
    exact .coe 0

/-- So a layer normalisation with a finite gain and shift is finite. -/
theorem finite_lnorm {n : ℕ} {N ε : ℝ} (hN : 0 < N) (hε : 0 < ε) (he : Ideal.ofBits .f32 0x3727C5AC#32 = (ε : EReal))
    (h g b : Fin n → EReal) (hg : ∀ k, Finite (g k)) (hb : ∀ k, Finite (b k)) (k : Fin n) : Finite (lnorm N h g b k) :=
  ((finite_normed hN hε he h k).mul (hg k)).add (hb k)

/-! ## The literals -/

/-- The literal 512.0 is the real number 512. -/
theorem lit_512 : Ideal.ofBits .f32 0x44000000#32 = ((512 : ℝ) : EReal) := by
  simp [Ideal.ofBits, Ideal.ieee, -EReal.coe_mul]; norm_num

/-- The literal 1e-5 is a positive real number. -/
theorem lit_eps : ∃ ε : ℝ, 0 < ε ∧ Ideal.ofBits .f32 0x3727C5AC#32 = (ε : EReal) :=
  ⟨10995116 * (1 / 1099511627776), by norm_num, by simp [Ideal.ofBits, Ideal.ieee, -EReal.coe_mul]; norm_num⟩

/-- An embedding is finite where the last layer's gain and shift are, whatever the row and the other weights hold. -/
theorem finite_embed {n p : ℕ} {q : ℕ} (W₁ : Fin n → Fin p → EReal) (g₁ b₁ : Fin p → EReal) (W₂ : Fin p → Fin q → EReal)
    (g₂ b₂ : Fin q → EReal) (N₁ : EReal) (hg : ∀ k, Finite (g₂ k)) (hb : ∀ k, Finite (b₂ k)) (x : Fin n → EReal) (k : Fin q) :
    Finite (embed W₁ g₁ b₁ W₂ g₂ b₂ N₁ (Ideal.ofBits .f32 0x44000000#32) x k) := by
  obtain ⟨ε, hε, he⟩ := lit_eps
  rw [embed, lit_512]
  exact finite_lnorm (by norm_num) hε he _ _ _ hg hb k

/-! ## The LSTM cell -/

/-- The logistic function as both programs' operations spell it out: one over one and the exponential of the opposite. -/
def sigm (x : EReal) : EReal := Ideal.div 1 (1 + Ideal.exp (-x))

/-- Entry `j` of the gates' row: the input times its matrix, the hidden state times its own, and the shift. -/
def gate {n p q : ℕ} (Wi : Fin n → Fin q → EReal) (Wh : Fin p → Fin q → EReal) (b : Fin q → EReal)
    (x : Fin n → EReal) (h : Fin p → EReal) (j : Fin q) : EReal := dense x Wi j + dense h Wh j + b j

/-- Column `k` of gate number `g` in the row of the four gates: input, forget, candidate, output. -/
def col (g : Fin 4) (k : Fin 512) : Fin 2048 := ⟨512 * g.val + k.val, by omega⟩

/-- The new cell row: what the forget gate keeps of the old one and what the input gate lets in of the candidate. -/
def cell (z : Fin 2048 → EReal) (c : Fin 512 → EReal) (k : Fin 512) : EReal :=
  sigm (z (col 1 k)) * c k + sigm (z (col 0 k)) * Ideal.tanh (z (col 2 k))

/-- The new hidden row: what the output gate lets out of the new cell row. -/
def hidden (z : Fin 2048 → EReal) (c : Fin 512 → EReal) (k : Fin 512) : EReal :=
  sigm (z (col 3 k)) * Ideal.tanh (cell z c k)

/-- The hidden and the cell row before step `t`, zero before the first, over the input rows `x`. -/
def lstm (Wi Wh : Fin 512 → Fin 2048 → EReal) (b : Fin 2048 → EReal) (x : ℕ → Fin 512 → EReal) : ℕ → (Fin 512 → EReal) × (Fin 512 → EReal)
  | 0 => (fun _ => 0, fun _ => 0)
  | t + 1 => (hidden (gate Wi Wh b (x t) (lstm Wi Wh b x t).1) (lstm Wi Wh b x t).2,
      cell (gate Wi Wh b (x t) (lstm Wi Wh b x t).1) (lstm Wi Wh b x t).2)

end Cert.Maths

end
-- ==== Proof.EmbedBlock.lean ====
/- What call 0's body computes on one block of 4096 rows, read entry by entry: the kernel's chain of operations is the row's
   embedding, its one-hot matrix is 1 where a row's segment is the output row and 0 elsewhere, and what it stores is the sum
   of the embeddings of the rows of a segment. -/
module

public import proofs.«01_k».proof.Proof.Gen.KernelIdeal.Skeleton
public import proofs.«01_k».proof.Proof.Maths
public import Idealize.ShloMosaic.Lib.Pointwise

@[expose] public section

noncomputable section

namespace Cert.EmbedBlock

open Cert.KernelIdeal Cert.KernelIdeal.Gen Cert.Maths
open Idealize.ShloMosaic

/-! ## The operations of the body, stage by stage -/

/-- The leaky rectifier on a 256-wide block. -/
def leaky256 (h : FVec Ideal S4096x256 .f32) : FVec Ideal S4096x256 .f32 :=
  select (cmpf .oge h (broadcast S4096x256 (Scalar.ofBits .f32 0x00000000#32))) h
    (mulf (broadcast S4096x256 (Scalar.ofBits .f32 0x3DCCCCCD#32)) h)

/-- The leaky rectifier on a 512-wide block. -/
def leaky512 (h : FVec Ideal S4096x512 .f32) : FVec Ideal S4096x512 .f32 :=
  select (cmpf .oge h (broadcast S4096x512 (Scalar.ofBits .f32 0x00000000#32))) h
    (mulf (broadcast S4096x512 (Scalar.ofBits .f32 0x3DCCCCCD#32)) h)

/-- The layer normalisation of a 256-wide block's rows. -/
def norm256 (h : FVec Ideal S4096x256 .f32) (g b : FVec Ideal S1x256 .f32) : FVec Ideal S4096x256 .f32 :=
  have s : FVec Ideal S4096 .f32 := multiReduction .add [1] S4096 h 0x00000000#32 reduces_S4096x256_S4096 (.inl rfl) rfl
  have mu : FVec Ideal S4096x1 .f32 := divf (shapeCast S4096x1 s shapeCasts_S4096_S4096x1) (broadcast S4096x1 (Scalar.ofBits .f32 0x43800000#32))
  have d : FVec Ideal S4096x256 .f32 := subf h (broadcastTo S4096x256 mu broadcasts_S4096x1_S4096x256)
  have q : FVec Ideal S4096 .f32 := multiReduction .add [1] S4096 (mulf d d) 0x00000000#32 reduces_S4096x256_S4096 (.inl rfl) rfl
  have var : FVec Ideal S4096x1 .f32 := divf (shapeCast S4096x1 q shapeCasts_S4096_S4096x1) (broadcast S4096x1 (Scalar.ofBits .f32 0x43800000#32))
  have sd : FVec Ideal S4096x1 .f32 := sqrt (addf var (broadcast S4096x1 (Scalar.ofBits .f32 0x3727C5AC#32)))
  addf (mulf (divf d (broadcastTo S4096x256 sd broadcasts_S4096x1_S4096x256))
      (broadcastTo S4096x256 (shapeCast S1x256 g shapeCasts_S1x256_S1x256) broadcasts_S1x256_S4096x256))
    (broadcastTo S4096x256 (shapeCast S1x256 b shapeCasts_S1x256_S1x256) broadcasts_S1x256_S4096x256)

/-- The layer normalisation of a 512-wide block's rows. -/
def norm512 (h : FVec Ideal S4096x512 .f32) (g b : FVec Ideal S1x512 .f32) : FVec Ideal S4096x512 .f32 :=
  have s : FVec Ideal S4096 .f32 := multiReduction .add [1] S4096 h 0x00000000#32 reduces_S4096x512_S4096 (.inl rfl) rfl
  have mu : FVec Ideal S4096x1 .f32 := divf (shapeCast S4096x1 s shapeCasts_S4096_S4096x1) (broadcast S4096x1 (Scalar.ofBits .f32 0x44000000#32))
  have d : FVec Ideal S4096x512 .f32 := subf h (broadcastTo S4096x512 mu broadcasts_S4096x1_S4096x512)
  have q : FVec Ideal S4096 .f32 := multiReduction .add [1] S4096 (mulf d d) 0x00000000#32 reduces_S4096x512_S4096 (.inl rfl) rfl
  have var : FVec Ideal S4096x1 .f32 := divf (shapeCast S4096x1 q shapeCasts_S4096_S4096x1) (broadcast S4096x1 (Scalar.ofBits .f32 0x44000000#32))
  have sd : FVec Ideal S4096x1 .f32 := sqrt (addf var (broadcast S4096x1 (Scalar.ofBits .f32 0x3727C5AC#32)))
  addf (mulf (divf d (broadcastTo S4096x512 sd broadcasts_S4096x1_S4096x512))
      (broadcastTo S4096x512 (shapeCast S1x512 g shapeCasts_S1x512_S1x512) broadcasts_S1x512_S4096x512))
    (broadcastTo S4096x512 (shapeCast S1x512 b shapeCasts_S1x512_S1x512) broadcasts_S1x512_S4096x512)

/-- The first dense layer of the block. -/
def dense256 (x : FVec Ideal S4096x128 .f32) (w : FVec Ideal S128x256 .f32) : FVec Ideal S4096x256 .f32 :=
  matmul dot_S4096x128_S128x256_S4096x256_1_0_0_1_n_n none x w (constant S4096x256 .f32 0x00000000#32)

/-- The second dense layer of the block. -/
def dense512 (x : FVec Ideal S4096x256 .f32) (w : FVec Ideal S256x512 .f32) : FVec Ideal S4096x512 .f32 :=
  matmul dot_S4096x256_S256x512_S4096x512_1_0_0_1_n_n none x w (constant S4096x512 .f32 0x00000000#32)

/-- The matrix that holds 1 where a row of the block belongs to a segment. -/
def onehot (seg : IVec S1x1x4096 32) : FVec Ideal S512x4096 .bf16 :=
  truncf .bf16 (sitofp .f32 (extui 32 (cmpi .eq (iota .tc S512x4096 32 [0] iota_S512x4096_d0_w32)
    (broadcastTo S512x4096 (shapeCast S1x4096 (shapeCast S4096 seg shapeCasts_S1x1x4096_S4096) shapeCasts_S4096_S1x4096) broadcasts_S1x4096_S512x4096)) natLt_1_32)) bitsLt_bf16_f32

/-- The product of the one-hot matrix with a block rounded to the narrow format. -/
def gather (o : FVec Ideal S512x4096 .bf16) (e : FVec Ideal S4096x512 .bf16) : FVec Ideal S512x512 .f32 :=
  matmul dot_S512x4096_S4096x512_S512x512_1_0_0_1_n_n none o e (constant S512x512 .f32 0x00000000#32)

/-- The embeddings of a block's rows, by the kernel's operations. -/
def embedded (x : FVec Ideal S4096x128 .f32) (w₁ : FVec Ideal S128x256 .f32) (g₁ b₁ : FVec Ideal S1x256 .f32)
    (w₂ : FVec Ideal S256x512 .f32) (g₂ b₂ : FVec Ideal S1x512 .f32) : FVec Ideal S4096x512 .f32 :=
  norm512 (leaky512 (dense512 (norm256 (leaky256 (dense256 x w₁)) g₁ b₁) w₂)) g₂ b₂

/-- What the body stores is the stages one after the other: the block's embeddings are gathered twice, once in the narrow
    format and once as what the narrow format leaves over. -/
theorem pay_eq (x : FVec Ideal S4096x128 .f32) (w₁ : FVec Ideal S128x256 .f32) (g₁ b₁ : FVec Ideal S1x256 .f32)
    (w₂ : FVec Ideal S256x512 .f32) (g₂ b₂ : FVec Ideal S1x512 .f32) (seg : IVec S1x1x4096 32) :
    k0_pay4 (F := Ideal) (k0_pay2 (F := Ideal) x w₁ g₁ b₁ w₂) (k0_pay3 (F := Ideal) x w₁ g₁ b₁ w₂) (Scalar.ofBits .f32 0x3DCCCCCD#32) g₂ b₂ seg
      = addf (gather (onehot seg) (truncf .bf16 (embedded x w₁ g₁ b₁ w₂ g₂ b₂) bitsLt_bf16_f32))
          (gather (onehot seg) (truncf .bf16 (subf (embedded x w₁ g₁ b₁ w₂ g₂ b₂)
            (extf .f32 (truncf .bf16 (embedded x w₁ g₁ b₁ w₂ g₂ b₂) bitsLt_bf16_f32) bitsLt_bf16_f32)) bitsLt_bf16_f32)) := rfl

/-! ## The stages at an entry -/

/-- An entry of the leaky ReLU on 256 columns. -/
theorem leaky256_apply (h : FVec Ideal S4096x256 .f32) (r : Fin 4096) (k : Fin 256) :
    leaky256 h (ix2 r k) = leaky (h (ix2 r k)) := by
  pointwise [leaky256]; rfl

/-- The same on 512 columns. -/
theorem leaky512_apply (h : FVec Ideal S4096x512 .f32) (r : Fin 4096) (k : Fin 512) :
    leaky512 h (ix2 r k) = leaky (h (ix2 r k)) := by
  pointwise [leaky512]; rfl

/-- An entry of the normalisation on 256 columns is that of its row. -/
theorem norm256_apply (h : FVec Ideal S4096x256 .f32) (g b : FVec Ideal S1x256 .f32) (r : Fin 4096) (k : Fin 256) :
    norm256 h g b (ix2 r k) = lnorm (Ideal.ofBits .f32 0x43800000#32) (fun a => h (ix2 r a)) (fun a => g (ix2 0 a)) (fun a => b (ix2 0 a)) k := by
  pointwise [norm256]; rfl

/-- The same on 512 columns. -/
theorem norm512_apply (h : FVec Ideal S4096x512 .f32) (g b : FVec Ideal S1x512 .f32) (r : Fin 4096) (k : Fin 512) :
    norm512 h g b (ix2 r k) = lnorm (Ideal.ofBits .f32 0x44000000#32) (fun a => h (ix2 r a)) (fun a => g (ix2 0 a)) (fun a => b (ix2 0 a)) k := by
  pointwise [norm512]; rfl

/-- An entry of the first dense layer is the product of its row with a column. -/
theorem dense256_apply (x : FVec Ideal S4096x128 .f32) (w : FVec Ideal S128x256 .f32) (r : Fin 4096) (k : Fin 256) :
    dense256 x w (ix2 r k) = dense (fun a => x (ix2 r a)) (fun a k => w (ix2 a k)) k := by
  pointwise [dense256]; rfl

/-- The same of the second. -/
theorem dense512_apply (x : FVec Ideal S4096x256 .f32) (w : FVec Ideal S256x512 .f32) (r : Fin 4096) (k : Fin 512) :
    dense512 x w (ix2 r k) = dense (fun a => x (ix2 r a)) (fun a k => w (ix2 a k)) k := by
  pointwise [dense512]; rfl

/-- An entry of the one-hot product is a sum over the rows of the block. -/
theorem gather_apply (o : FVec Ideal S512x4096 .bf16) (e : FVec Ideal S4096x512 .bf16) (s : Fin 512) (k : Fin 512) :
    gather o e (ix2 s k) = ∑ r : Fin 4096, o (ix2 s r) * e (ix2 r k) := by
  pointwise [gather]

/-- The one-hot matrix's entry: 1 where the row's segment is `s`, and 0 elsewhere. -/
theorem onehot_apply (seg : IVec S1x1x4096 32) (s : Fin 512) (r : Fin 4096) :
    onehot seg (ix2 s r) = if seg (ix3 0 0 r) = BitVec.ofNat 32 s.val then 1 else 0 := by
  have e : onehot seg (ix2 s r)
      = FloatOps.sitofp (F := Ideal) .f32 (BitVec.setWidth 32 (IntOp.cmpi .eq (BitVec.ofNat 32 s.val) (seg (ix3 0 0 r)))) := by
    pointwise [onehot]
  rw [e]
  by_cases h : seg (ix3 0 0 r) = BitVec.ofNat 32 s.val
  · rw [if_pos h, h]
    simp [IntOp.cmpi, FloatOps.sitofp]
  · rw [if_neg h]
    have hb : (BitVec.ofNat 32 s.val == seg (ix3 0 0 r)) = false := beq_false_of_ne (Ne.symm h)
    simp [IntOp.cmpi, FloatOps.sitofp, hb]

/-- The block's embeddings at row `r` are the mathematics' embedding of that row. -/
theorem embedded_apply (x : FVec Ideal S4096x128 .f32) (w₁ : FVec Ideal S128x256 .f32) (g₁ b₁ : FVec Ideal S1x256 .f32)
    (w₂ : FVec Ideal S256x512 .f32) (g₂ b₂ : FVec Ideal S1x512 .f32) (r : Fin 4096) (k : Fin 512) :
    embedded x w₁ g₁ b₁ w₂ g₂ b₂ (ix2 r k)
      = embed (fun a k => w₁ (ix2 a k)) (fun a => g₁ (ix2 0 a)) (fun a => b₁ (ix2 0 a)) (fun a k => w₂ (ix2 a k))
          (fun a => g₂ (ix2 0 a)) (fun a => b₂ (ix2 0 a)) (Ideal.ofBits .f32 0x43800000#32) (Ideal.ofBits .f32 0x44000000#32)
          (fun a => x (ix2 r a)) k := by
  simp only [embedded, norm512_apply, leaky512_apply, dense512_apply, norm256_apply, leaky256_apply, dense256_apply]
  rfl

/-- What the body computes for a block, at output row `s`: the embeddings of the block's rows of segment `s` added up. An
    embedding is finite where the last gain and shift are, so what the narrow format leaves over is zero. -/
theorem pay_apply (x : FVec Ideal S4096x128 .f32) (w₁ : FVec Ideal S128x256 .f32) (g₁ b₁ : FVec Ideal S1x256 .f32)
    (w₂ : FVec Ideal S256x512 .f32) (g₂ b₂ : FVec Ideal S1x512 .f32) (seg : IVec S1x1x4096 32)
    (hg : ∀ k, Finite (g₂ (ix2 0 k))) (hb : ∀ k, Finite (b₂ (ix2 0 k))) (s k : Fin 512) :
    k0_pay4 (F := Ideal) (k0_pay2 (F := Ideal) x w₁ g₁ b₁ w₂) (k0_pay3 (F := Ideal) x w₁ g₁ b₁ w₂) (Scalar.ofBits .f32 0x3DCCCCCD#32) g₂ b₂ seg (ix2 s k)
      = ∑ r : Fin 4096, if seg (ix3 0 0 r) = BitVec.ofNat 32 s.val then
          embed (fun a k => w₁ (ix2 a k)) (fun a => g₁ (ix2 0 a)) (fun a => b₁ (ix2 0 a)) (fun a k => w₂ (ix2 a k))
            (fun a => g₂ (ix2 0 a)) (fun a => b₂ (ix2 0 a)) (Ideal.ofBits .f32 0x43800000#32) (Ideal.ofBits .f32 0x44000000#32)
            (fun a => x (ix2 r a)) k else 0 := by
  rw [pay_eq]
  generalize hE : embedded x w₁ g₁ b₁ w₂ g₂ b₂ = E
  have hEr : ∀ r, E (ix2 r k) = _ := fun r => hE ▸ embedded_apply x w₁ g₁ b₁ w₂ g₂ b₂ r k
  have hfin : ∀ r, E (ix2 r k) - E (ix2 r k) = 0 := fun r => by
    rw [hEr r]; exact (finite_embed _ _ _ _ _ _ _ hg hb _ _).sub_self
  show gather _ _ (ix2 s k) + gather _ _ (ix2 s k) = _
  rw [gather_apply, gather_apply]
  have hlo : ∀ r : Fin 4096, (truncf .bf16 (subf E (extf .f32 (truncf .bf16 E bitsLt_bf16_f32) bitsLt_bf16_f32)) bitsLt_bf16_f32 : FVec Ideal S4096x512 .bf16) (ix2 r k) = 0 :=
    fun r => hfin r
  have hhi : ∀ r : Fin 4096, (truncf .bf16 E bitsLt_bf16_f32 : FVec Ideal S4096x512 .bf16) (ix2 r k) = E (ix2 r k) := fun r => rfl
  simp only [hlo, hhi, mul_zero, Finset.sum_const_zero, add_zero, onehot_apply, ite_mul, one_mul, zero_mul]
  exact Finset.sum_congr rfl fun r _ => by rw [hEr r]

end Cert.EmbedBlock
end
-- ==== Proof.PoolPoint.lean ====
/- What call 0 leaves after each grid point: after the first the sum for its own block, and after every later one its block's
   sum added to what the point before left. -/
module

public import proofs.«01_k».proof.Proof.KernelIdealRun
public import proofs.«01_k».proof.Proof.EmbedBlock

@[expose] public section

set_option maxRecDepth 16384

noncomputable section

namespace Cert.Pool

open Cert.KernelIdeal Cert.KernelIdeal.Gen Cert.KernelIdeal.Whole
open Idealize.ShloMosaic Idealize.ShloMosaic.TcCoe Idealize.ShloMosaic.Tactic Idealize.SL.Sem

variable {F : FTy → Type} [FloatOps F]

/-- Two zeros are the zero function. -/
theorem hz2 : (![0, 0] : Fin 2 → Nat) = fun _ => 0 := funext fun a => by fin_cases a <;> rfl
/-- So are three. -/
theorem hz3 : (![0, 0, 0] : Fin 3 → Nat) = fun _ => 0 := funext fun a => by fin_cases a <;> rfl

/-- The sum the body computes for one block, of what its input buffers hold. -/
def blockSum (x0 : Vec F S4096x128 .f32) (x1 : Vec F S1x1x4096 .i32) (x2 : Vec F S128x256 .f32) (x3 x4 : Vec F S1x256 .f32)
    (x5 : Vec F S256x512 .f32) (x6 x7 : Vec F S1x512 .f32) : Vec F S512x512 .f32 :=
  k0_pay4 (k0_pay2 x0 x2 x3 x4 x5) (k0_pay3 x0 x2 x3 x4 x5) (Scalar.ofBits .f32 0x3DCCCCCD#32) x6 x7 x1

section Body

variable (c : Dev nD) (i : grid0.Coords) (a1 : Memref sig .tc .vmem S4096x128 .f32) (h1 : a1.IsWhole)
  (a2 : Memref sig .tc .vmem S1x1x4096 .i32) (h2 : a2.IsWhole) (a3 : Memref sig .tc .vmem S128x256 .f32) (h3 : a3.IsWhole)
  (a4 : Memref sig .tc .vmem S1x256 .f32) (h4 : a4.IsWhole) (a5 : Memref sig .tc .vmem S1x256 .f32) (h5 : a5.IsWhole)
  (a6 : Memref sig .tc .vmem S256x512 .f32) (h6 : a6.IsWhole) (a7 : Memref sig .tc .vmem S1x512 .f32) (h7 : a7.IsWhole)
  (a8 : Memref sig .tc .vmem S1x512 .f32) (h8 : a8.IsWhole) (a9 : Memref sig .tc .vmem S512x512 .f32) (h9 : a9.IsWhole)
  (x0 : Vec F S4096x128 .f32) (x1 : Vec F S1x1x4096 .i32) (x2 : Vec F S128x256 .f32) (x3 x4 : Vec F S1x256 .f32)
  (x5 : Vec F S256x512 .f32) (x6 x7 : Vec F S1x512 .f32) (xo : Vec F S512x512 .f32)

/-- At the first point the body leaves its block's sum. -/
theorem out_first (hc0 : cond0_0 i) (hc1 : ¬cond0_1 i) :
    out0_A_8 c i a1 h1 a2 h2 a3 h3 a4 h4 a5 h5 a6 h6 a7 h7 a8 h8 a9 h9 hc0 hc1 x0 x1 x2 x3 x4 x5 x6 x7
      = blockSum x0 x1 x2 x3 x4 x5 x6 x7 := by
  unfold out0_A_8
  rw [View.read_writes_eq_canon _ _ _ (cover0_A_8 c i a1 h1 a2 h2 a3 h3 a4 h4 a5 h5 a6 h6 a7 h7 a8 h8 a9 h9 hc0 hc1 x0 x1 x2 x3 x4 x5 x6 x7)]
  unfold kernelRun0_A
  dsimp only
  sl_unfold_words
  rw [View.canon_unit_zero hz2]
  simp only [View.readAt_eq_ld, h1.read_unread, h2.read_unread, h3.read_unread, h4.read_unread, h5.read_unread, h6.read_unread,
    h7.read_unread, h8.read_unread, View.ld_unit_zero (S := S4096x128) hz2, View.ld_unit_zero (S := S1x1x4096) hz3,
    View.ld_unit_zero (S := S128x256) hz2, View.ld_unit_zero (S := S1x256) hz2, View.ld_unit_zero (S := S256x512) hz2,
    View.ld_unit_zero (S := S1x512) hz2]
  rfl

/-- At a later point the body leaves its block's sum added to what it found. -/
theorem out_later (hc0 : ¬cond0_0 i) (hc1 : cond0_1 i) :
    out0_B_8 c i a1 h1 a2 h2 a3 h3 a4 h4 a5 h5 a6 h6 a7 h7 a8 h8 a9 h9 hc0 hc1 x0 x1 x2 x3 x4 x5 x6 x7 xo
      = addf xo (blockSum x0 x1 x2 x3 x4 x5 x6 x7) := by
  unfold out0_B_8
  rw [View.read_writes_eq_canon _ _ _ (cover0_B_8 c i a1 h1 a2 h2 a3 h3 a4 h4 a5 h5 a6 h6 a7 h7 a8 h8 a9 h9 hc0 hc1 x0 x1 x2 x3 x4 x5 x6 x7 xo)]
  unfold kernelRun0_B
  dsimp only
  sl_unfold_words
  rw [View.canon_unit_zero hz2]
  unfold k0_pay1
  simp only [View.readAt_eq_ld, h1.read_unread, h2.read_unread, h3.read_unread, h4.read_unread, h5.read_unread, h6.read_unread,
    h7.read_unread, h8.read_unread, h9.read_unread, View.ld_unit_zero (S := S4096x128) hz2, View.ld_unit_zero (S := S1x1x4096) hz3,
    View.ld_unit_zero (S := S128x256) hz2, View.ld_unit_zero (S := S1x256) hz2, View.ld_unit_zero (S := S256x512) hz2,
    View.ld_unit_zero (S := S1x512) hz2, View.ld_unit_zero (S := S512x512) hz2, shapeCast_self]
  rfl

end Body

end Cert.Pool
end
-- ==== Proof.PoolValue.lean ====
/- The array call 0 leaves: its one output block is the whole array, written back after the last of the eight points, and holds
   at row `s` the embeddings of all the 32768 rows of segment `s` added up. -/
module

public import proofs.«01_k».proof.Proof.PoolPoint

@[expose] public section

set_option maxRecDepth 16384

noncomputable section

namespace Cert.Pool

open Cert.KernelIdeal Cert.KernelIdeal.Gen Cert.KernelIdeal.Whole Cert.Maths
open Idealize.ShloMosaic Idealize.ShloMosaic.TcCoe Idealize.ShloMosaic.Tactic Idealize.SL.Sem
open Idealize.ShloMosaic.Pipeline (Dat)

section Blocks

variable {F : FTy → Type} [FloatOps F]
variable (V : (c : Dev nD) → (b : Ref sig .tc) → Buf (Elt F) ((c : Thread nD τ).loc b)) (c : Dev nD)

/-! ## What the windows read -/

/-- The window of the observations reads the point's 4096 rows. -/
theorem read_obs (t : Fin cfg0.N) (r : Fin 4096) (k : Fin 128) (h : 4096 * t.val + r.val < 32768) :
    (iblk0 V c 0 t : Vec F S4096x128 .f32) (ix2 r k) = V c main_arg0 (ix2 ⟨4096 * t.val + r.val, h⟩ k) := by
  have hi : ∀ t : Fin cfg0.N, win0_0.index t 0 = t.val ∧ win0_0.index t 1 = 0 := by decide +kernel
  unfold iblk0
  rw [View.read_apply]
  show V c main_arg0 _ = V c main_arg0 _
  congr 1
  funext a
  apply Fin.ext
  match a with
  | ⟨0, _⟩ => show win0_0.index t 0 * 4096 + 1 * r.val = 4096 * t.val + r.val; rw [(hi t).1]; omega
  | ⟨1, _⟩ => show win0_0.index t 1 * 128 + 1 * k.val = k.val; rw [(hi t).2]; omega

/-- The window of the segment numbers reads the point's row of them. -/
theorem read_seg (t : Fin cfg0.N) (r : Fin 4096) (h : t.val < 8) :
    (iblk0 V c 1 t : Vec F S1x1x4096 .i32) (ix3 0 0 r) = V c main_v0 (ix3 ⟨t.val, h⟩ 0 r) := by
  have hi : ∀ t : Fin cfg0.N, win0_1.index t 0 = t.val ∧ win0_1.index t 1 = 0 ∧ win0_1.index t 2 = 0 := by decide +kernel
  unfold iblk0
  rw [View.read_apply]
  show V c main_v0 _ = V c main_v0 _
  congr 1
  funext a
  apply Fin.ext
  match a with
  | ⟨0, _⟩ => show win0_1.index t 0 * 1 + 1 * 0 = t.val; rw [(hi t).1]; omega
  | ⟨1, _⟩ => show win0_1.index t 1 * 1 + 1 * 0 = 0; rw [(hi t).2.1]
  | ⟨2, _⟩ => show win0_1.index t 2 * 4096 + 1 * r.val = r.val; rw [(hi t).2.2]; omega

/-- The other windows read their arrays whole, at every point. -/
theorem read_w₁ (t : Fin cfg0.N) : (iblk0 V c 2 t : Vec F S128x256 .f32) = V c main_arg2 := by
  have hi : ∀ t : Fin cfg0.N, (fun a => win0_2.index t a * main_arg2.ty.shape.size a) = fun _ => 0 := fun t =>
    funext fun a => by revert t; fin_cases a <;> decide +kernel
  exact Memref.read_access_unit_zero (Elt F) main_arg2 (hi t) (fun a => by rw [congrFun (hi t) a]; simp) (V c main_arg2)

/-- The first scale is read whole. -/
theorem read_g₁ (t : Fin cfg0.N) : (iblk0 V c 3 t : Vec F S1x256 .f32) = V c main_v1 := by
  have hi : ∀ t : Fin cfg0.N, (fun a => win0_3.index t a * main_v1.ty.shape.size a) = fun _ => 0 := fun t =>
    funext fun a => by revert t; fin_cases a <;> decide +kernel
  exact Memref.read_access_unit_zero (Elt F) main_v1 (hi t) (fun a => by rw [congrFun (hi t) a]; simp) (V c main_v1)

/-- The first shift is read whole. -/
theorem read_b₁ (t : Fin cfg0.N) : (iblk0 V c 4 t : Vec F S1x256 .f32) = V c main_v2 := by
  have hi : ∀ t : Fin cfg0.N, (fun a => win0_4.index t a * main_v2.ty.shape.size a) = fun _ => 0 := fun t =>
    funext fun a => by revert t; fin_cases a <;> decide +kernel
  exact Memref.read_access_unit_zero (Elt F) main_v2 (hi t) (fun a => by rw [congrFun (hi t) a]; simp) (V c main_v2)

/-- The second weights are read whole. -/
theorem read_w₂ (t : Fin cfg0.N) : (iblk0 V c 5 t : Vec F S256x512 .f32) = V c main_arg5 := by
  have hi : ∀ t : Fin cfg0.N, (fun a => win0_5.index t a * main_arg5.ty.shape.size a) = fun _ => 0 := fun t =>
    funext fun a => by revert t; fin_cases a <;> decide +kernel
  exact Memref.read_access_unit_zero (Elt F) main_arg5 (hi t) (fun a => by rw [congrFun (hi t) a]; simp) (V c main_arg5)

/-- The second scale is read whole. -/
theorem read_g₂ (t : Fin cfg0.N) : (iblk0 V c 6 t : Vec F S1x512 .f32) = V c main_v3 := by
  have hi : ∀ t : Fin cfg0.N, (fun a => win0_6.index t a * main_v3.ty.shape.size a) = fun _ => 0 := fun t =>
    funext fun a => by revert t; fin_cases a <;> decide +kernel
  exact Memref.read_access_unit_zero (Elt F) main_v3 (hi t) (fun a => by rw [congrFun (hi t) a]; simp) (V c main_v3)

/-- The second shift is read whole. -/
theorem read_b₂ (t : Fin cfg0.N) : (iblk0 V c 7 t : Vec F S1x512 .f32) = V c main_v4 := by
  have hi : ∀ t : Fin cfg0.N, (fun a => win0_7.index t a * main_v4.ty.shape.size a) = fun _ => 0 := fun t =>
    funext fun a => by revert t; fin_cases a <;> decide +kernel
  exact Memref.read_access_unit_zero (Elt F) main_v4 (hi t) (fun a => by rw [congrFun (hi t) a]; simp) (V c main_v4)

/-! ## The output array -/

/-- The number of points is 8. -/
theorem points : cfg0.N = 8 := by decide +kernel

/-- The last point. -/
def last0 : Fin cfg0.N := ⟨7, by rw [points]; decide⟩

/-- What the array holds at the end: what the body left at the last point. -/
theorem arr_eq (h7 : 7 < cfg0.N) : (dat0 V c).arrAt 8 cfg0.N = outsAt0 V c 7 h7 := by
  have hz : ∀ t : Fin cfg0.N, (fun a => win0_8.index t a * main_v5.ty.shape.size a) = fun _ => 0 := fun t =>
    funext fun a => by revert t; fin_cases a <;> decide +kernel
  refine (dat0 V c).arrAt_eq_of_cover 8 (outsAt0 V c 7 h7) (fun t hf => ?_) fun i => ⟨last0, (flush0_8 last0).mpr rfl, ?_⟩
  · have ht : t.val = 7 := by have := (flush0_8 t).mp hf; have := t.isLt; have := points; omega
    obtain rfl : t = last0 := Fin.ext ht
    show (cfg0.win 8).cut (grid0.coords last0) ((dat0 V c).after 8 last0) = _
    rw [after0_8]
    exact (Memref.read_access_unit_zero (Elt F) main_v5 (hz last0) (fun a => by rw [congrFun (hz last0) a]; simp) (outsAt0 V c 7 h7)).symm
  · show i ∈ ((View.whole main_v5).slice (win0_8.rect last0)).set
    rw [View.set_slice_whole, Rect.mem_set_unit]
    intro a
    have e : win0_8.index last0 a * win0_8.size a = 0 := by revert a; decide +kernel
    have e' : win0_8.xsize (grid0.coords last0) a = main_v5.ty.shape.size a := by revert a; decide +kernel
    show win0_8.index last0 a * win0_8.size a ≤ (i a : Nat) ∧ (i a : Nat) < win0_8.index last0 a * win0_8.size a + win0_8.xsize (grid0.coords last0) a
    rw [e, e']
    exact ⟨Nat.zero_le _, by rw [Nat.zero_add]; exact (i a).isLt⟩

end Blocks

/-! ## The sum over the points -/

variable (V : (c : Dev nD) → (b : Ref sig .tc) → Buf (Elt Ideal) ((c : Thread nD τ).loc b)) (c : Dev nD)

/-- The sum of the block of point `t`. -/
def part (t : Fin cfg0.N) : FVec Ideal S512x512 .f32 :=
  blockSum (F := Ideal) (iblk0 V c 0 t) (iblk0 V c 1 t) (iblk0 V c 2 t) (iblk0 V c 3 t) (iblk0 V c 4 t) (iblk0 V c 5 t) (iblk0 V c 6 t) (iblk0 V c 7 t)

/-- After point `n` the output's buffer holds the sums of the blocks of points 0 to `n`, added up. -/
theorem outs_eq (x : S512x512.Idx) : ∀ (n : ℕ) (hn : n < cfg0.N),
    outsAt0 V c n hn x = ∑ t : Fin (n + 1), part V c ⟨t.val, by omega⟩ x
  | 0, hn => by
    rw [show outsAt0 V c 0 hn = part V c ⟨0, hn⟩ from
      (outsAt0_A V c ⟨0, hn⟩ rfl (by simp)).trans (out_first ..)]
    simp
  | n + 1, hn => by
    have hN := points
    have h0 : ¬(⟨n + 1, hn⟩ : Fin cfg0.N).val % 8 = 0 := by dsimp only; omega
    rw [show outsAt0 V c (n + 1) hn = addf (outsAt0 V c n (by omega)) (part V c ⟨n + 1, hn⟩) from
      (outsAt0_B V c ⟨n + 1, hn⟩ h0 (by simp)).trans (out_later ..)]
    show outsAt0 V c n _ x + part V c ⟨n + 1, hn⟩ x = _
    rw [outs_eq x n, Fin.sum_univ_castSucc (n := n + 1)]
    rfl

end Cert.Pool
end
-- ==== Proof.PoolArray.lean ====
/- What call 0's result array holds, in terms of @main's arguments: at row `s` the embeddings of the 32768 rows of observations
   whose segment number is `s`, added up. -/
module

public import proofs.«01_k».proof.Proof.PoolValue
public import Idealize.ShloMosaic.Lib.StableHlo.RunRead

@[expose] public section

set_option maxRecDepth 16384

noncomputable section

namespace Cert.Pool

open Cert.KernelIdeal Cert.KernelIdeal.Gen Cert.KernelIdeal.Whole Cert.Maths
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-! ## The arrays call 0 is entered with -/

/-- A vector of 32768 words laid out in eight rows of 4096, at an entry. -/
theorem eight_rows (x : IVec S32768 32) (t : Fin 8) (r : Fin 4096) :
    shapeCast S8x1x4096 x shapeCasts_S32768_S8x1x4096 (ix3 t 0 r) = x (ix1 ⟨4096 * t.val + r.val, by omega⟩) := by
  refine shapeCast_apply _ _ _ _ ?_
  rw [rowMajor_val1, rowMajor_val3 _ 4096 4096 rfl rfl]
  show 4096 * t.val + r.val = t.val * 4096 + 0 * 4096 + r.val
  omega

/-- A vector laid out as one row, at an entry. -/
theorem one_row256 (x : FVec Ideal S256 .f32) (k : Fin 256) : shapeCast S1x256 x shapeCasts_S256_S1x256 (ix2 0 k) = x (ix1 k) := by
  pointwise

/-- A row of 512 entries laid out as a matrix of one row. -/
theorem one_row512 (x : FVec Ideal S512 .f32) (k : Fin 512) : shapeCast S1x512 x shapeCasts_S512_S1x512 (ix2 0 k) = x (ix1 k) := by
  pointwise

/-- Call 0 is entered with the segment ids laid out in 8 blocks. -/
theorem entry_seg : V1 m ρ c main_v0 = shapeCast S8x1x4096 (m ((c : Thread nD τ).loc main_arg1)) shapeCasts_S32768_S8x1x4096 := by
  show StableHlo.after hostOps0 _ _ = _
  simp only [hostOps0]; after_reads_simp; rfl

/-- With the first scale laid out as a row. -/
theorem entry_g₁ : V1 m ρ c main_v1 = shapeCast S1x256 (m ((c : Thread nD τ).loc main_arg3)) shapeCasts_S256_S1x256 := by
  show StableHlo.after hostOps0 _ _ = _
  simp only [hostOps0]; after_reads_simp; rfl

/-- With the first shift laid out as a row. -/
theorem entry_b₁ : V1 m ρ c main_v2 = shapeCast S1x256 (m ((c : Thread nD τ).loc main_arg4)) shapeCasts_S256_S1x256 := by
  show StableHlo.after hostOps0 _ _ = _
  simp only [hostOps0]; after_reads_simp; rfl

/-- With the second scale laid out as a row. -/
theorem entry_g₂ : V1 m ρ c main_v3 = shapeCast S1x512 (m ((c : Thread nD τ).loc main_arg6)) shapeCasts_S512_S1x512 := by
  show StableHlo.after hostOps0 _ _ = _
  simp only [hostOps0]; after_reads_simp; rfl

/-- With the second shift laid out as a row. -/
theorem entry_b₂ : V1 m ρ c main_v4 = shapeCast S1x512 (m ((c : Thread nD τ).loc main_arg7)) shapeCasts_S512_S1x512 := by
  show StableHlo.after hostOps0 _ _ = _
  simp only [hostOps0]; after_reads_simp; rfl

/-- And with the arguments as they were. -/
theorem entry_arg (a : Ref sig .tc) (ha : a ∈ argRefs) : V1 m ρ c a = m ((c : Thread nD τ).loc a) := W1_args m ρ c a ha

/-! ## The pooled rows -/

/-- The embedding of row `R` of the observations, of @main's arguments. -/
def row (R : Fin 32768) : Fin 512 → EReal :=
  embed (fun a k => m ((c : Thread nD τ).loc main_arg2) (ix2 a k)) (fun a => m ((c : Thread nD τ).loc main_arg3) (ix1 a))
    (fun a => m ((c : Thread nD τ).loc main_arg4) (ix1 a)) (fun a k => m ((c : Thread nD τ).loc main_arg5) (ix2 a k))
    (fun a => m ((c : Thread nD τ).loc main_arg6) (ix1 a)) (fun a => m ((c : Thread nD τ).loc main_arg7) (ix1 a))
    (Ideal.ofBits .f32 0x43800000#32) (Ideal.ofBits .f32 0x44000000#32) (fun a => m ((c : Thread nD τ).loc main_arg0) (ix2 R a))

/-- The sum of the block of point `t`: the embeddings of its 4096 rows that belong to the segment. -/
theorem part_apply (hg : ∀ k, Finite (m ((c : Thread nD τ).loc main_arg6) (ix1 k)))
    (hb : ∀ k, Finite (m ((c : Thread nD τ).loc main_arg7) (ix1 k))) (t : Fin cfg0.N) (ht : t.val < 8) (s k : Fin 512) :
    part (V1 m ρ) c t (ix2 s k) = ∑ r : Fin 4096,
      if m ((c : Thread nD τ).loc main_arg1) (ix1 ⟨4096 * t.val + r.val, by omega⟩) = BitVec.ofNat 32 s.val
      then row m c ⟨4096 * t.val + r.val, by omega⟩ k else 0 := by
  unfold part blockSum
  rw [read_w₁, read_g₁, read_b₁, read_w₂, read_g₂, read_b₂, entry_g₁, entry_b₁, entry_g₂, entry_b₂,
    entry_arg m ρ c main_arg2 (by decide), entry_arg m ρ c main_arg5 (by decide)]
  refine (EmbedBlock.pay_apply _ _ _ _ _ _ _ _ (fun k => ?_) (fun k => ?_) s k).trans (Finset.sum_congr rfl fun r _ => ?_)
  · rw [one_row512]; exact hg k
  · rw [one_row512]; exact hb k
  · rw [read_seg _ _ t r ht, entry_seg, eight_rows]
    have e256 : ∀ x : FVec Ideal S256 .f32, (fun a => shapeCast S1x256 x shapeCasts_S256_S1x256 (ix2 0 a)) = fun a => x (ix1 a) :=
      fun x => funext fun a => one_row256 x a
    have e512 : ∀ x : FVec Ideal S512 .f32, (fun a => shapeCast S1x512 x shapeCasts_S512_S1x512 (ix2 0 a)) = fun a => x (ix1 a) :=
      fun x => funext fun a => one_row512 x a
    have e0 : (fun a => (iblk0 (V1 m ρ) c 0 t : FVec Ideal S4096x128 .f32) (ix2 r a))
        = fun a => m ((c : Thread nD τ).loc main_arg0) (ix2 ⟨4096 * t.val + r.val, by omega⟩ a) :=
      funext fun a => (read_obs _ c t r a (by omega)).trans (congrFun (entry_arg m ρ c main_arg0 (by decide)) _)
    rw [e256, e256, e512, e512, e0]
    rfl

/-- The array call 0 leaves holds the pooled rows. -/
theorem arr_apply (hg : ∀ k, Finite (m ((c : Thread nD τ).loc main_arg6) (ix1 k)))
    (hb : ∀ k, Finite (m ((c : Thread nD τ).loc main_arg7) (ix1 k))) (s k : Fin 512) :
    W2 m ρ c (Proc.devRef .tc main_v5) (ix2 s k)
      = pooled (fun R : Fin (8 * 4096) => m ((c : Thread nD τ).loc main_arg1) (ix1 R)) (row m c) s k := by
  have hN := points
  have h7 : 7 < cfg0.N := by omega
  have e : W2 m ρ c (Proc.devRef .tc main_v5) = outsAt0 (V1 m ρ) c 7 h7 :=
    (W2_arr m ρ c 8).trans (arr_eq (V1 m ρ) c h7)
  have hp : (∑ t : Fin 8, part (V1 m ρ) c ⟨t.val, by omega⟩ (ix2 s k) : EReal) = _ :=
    Finset.sum_congr rfl fun t _ => part_apply m ρ c hg hb ⟨t.val, by omega⟩ t.isLt s k
  rw [e]
  refine (outs_eq (V1 m ρ) c (ix2 s k) 7 h7).trans (hp.trans ?_)
  exact sum_blocks (a := 8) (b := 4096) fun R => if m ((c : Thread nD τ).loc main_arg1) (ix1 R) = BitVec.ofNat 32 s.val then row m c R k else 0

end Cert.Pool
end
-- ==== Proof.LstmPoint.lean ====
/- What call 1's body leaves in its output's buffer: the 32 trips of its loop carry the hidden and the cell rows of the 16
   players, each trip reading its 16 rows of the input gates and storing its new hidden rows; after the loop the output holds,
   trip after trip, those hidden rows. -/
module

public import proofs.«01_k».proof.Proof.KernelIdealRun
public import proofs.«01_k».proof.Proof.Maths
public import Idealize.ShloMosaic.Lib.VecWindow
public import Idealize.ShloMosaic.Lib.Pointwise

@[expose] public section

set_option maxRecDepth 16384

noncomputable section

namespace Cert.Lstm

open Cert.KernelIdeal Cert.KernelIdeal.Gen Cert.KernelIdeal.Whole
open Idealize.ShloMosaic Idealize.ShloMosaic.TcCoe Idealize.ShloMosaic.Tactic Idealize.SL.Sem

variable {F : FTy → Type} [FloatOps F]

/-- Two zeros are the zero function. -/
theorem hz2 : (![0, 0] : Fin 2 → Nat) = fun _ => 0 := funext fun a => by fin_cases a <;> rfl

/-! ## The loop's carried value, as a recursion -/

/-- The rows of trip `t` of a block of 512 rows. -/
def rows (xp : Vec F S512x2048 .f32) (t : ℕ) : Vec F S16x2048 .f32 :=
  fun x => xp (ix2 ⟨(16 * t + (x 0).val) % 512, Nat.mod_lt _ (by decide)⟩ (x 1))

/-- The hidden and the cell rows before trip `t`: zero before the first, and each trip's by the body's operations. -/
def carried (w xp : Vec F S512x2048 .f32) : ℕ → FVec F S16x512 .f32 × FVec F S16x512 .f32
  | 0 => (k1_pay2, k1_pay3)
  | t + 1 => (k1_pay5 w (carried w xp t).1 (carried w xp t).2 (rows xp t), k1_pay4 w (carried w xp t).1 (carried w xp t).2 (rows xp t))

/-- The loop runs 32 times. -/
theorem trips32 : k1_t1_loop.trips = 32 := by decide +kernel

/-- Step `k` reads from row `16 k` on. -/
theorem off1_eq : ∀ k : Fin k1_t1_loop.trips, k1_off1 k = ![16 * k.val, 0] := by decide +kernel
/-- Step `k` writes from row `16 k` on. -/
theorem off2_eq : ∀ k : Fin k1_t1_loop.trips, k1_off2 k = ![16 * k.val, 0] := by decide +kernel

variable (c : Dev nD) (a0 : Memref sig .tc .vmem S512x512 .f32) (h0 : a0.IsWhole) (a1 : Memref sig .tc .vmem S512x2048 .f32) (h1 : a1.IsWhole)
  (a2 : Memref sig .tc .vmem S512x2048 .f32) (h2 : a2.IsWhole) (a3 : Memref sig .tc .vmem S1x2048 .f32) (h3 : a3.IsWhole)
  (a4 : Memref sig .tc .vmem S512x512 .f32) (h4 : a4.IsWhole) (a5 : Memref sig .tc .vmem S512x2048 .f32) (h5 : a5.IsWhole)

/-- What a trip loads of the input gates is its rows of what the scratch holds. -/
theorem load_rows (X : BufTy.Contents (Elt F) a5.view.ty) (k : Fin k1_t1_loop.trips) :
    View.readAt (Elt F) a5.view (Rect.unit (s := S512x2048) (k1_off1 k) S16x2048.size (k1_off1_inb k)).toLoadRect X
      = rows (a5.view.read (Elt F) X) k.val := by
  have hk : k.val < 32 := Nat.lt_of_lt_of_eq k.isLt trips32
  rw [View.readAt_eq_ld]
  funext x
  have hx : (x 0 : Nat) < 16 := (x 0).isLt
  unfold rows View.ld
  congr 1
  funext a
  apply Fin.ext
  match a with
  | ⟨0, _⟩ =>
    show k1_off1 k 0 + 1 * (x 0).val = (16 * k.val + (x 0).val) % 512
    have e : k1_off1 k 0 = 16 * k.val := congrFun (off1_eq k) 0
    omega
  | ⟨1, _⟩ =>
    show k1_off1 k 1 + 1 * (x 1).val = (x 1).val
    have e : k1_off1 k 1 = 0 := congrFun (off1_eq k) 1
    omega

/-- Before trip `t` the loop carries the recursion's value. -/
theorem carried_eq (w : Vec F S512x2048 .f32) (X : BufTy.Contents (Elt F) a5.view.ty) : ∀ t ≤ 32,
    (st_k1_t1 (F := F) Variants.none c none a0 h0 a1 h1 a2 h2 a3 h3 a4 h4 a5 h5 w X (k1_pay2, k1_pay3) t).1
      = carried w (a5.view.read (Elt F) X) t
  | 0, _ => rfl
  | t + 1, h => by
    have e := st_k1_t1_succ (F := F) Variants.none c none a0 h0 a1 h1 a2 h2 a3 h3 a4 h4 a5 h5 w X (k1_pay2, k1_pay3) ⟨t, by rw [trips32]; omega⟩
    have ih := carried_eq w X t (by omega)
    rw [e]
    dsimp only
    rw [ih]
    unfold tripR_k1_t1 trip_k1_t1
    dsimp only
    rw [load_rows]
    rfl

/-- The pieces written before trip `t` hold, at the rows of an earlier trip `u`, the hidden rows that trip left. -/
theorem pieces_apply (w : Vec F S512x2048 .f32) (X : BufTy.Contents (Elt F) a5.view.ty) (f : BufTy.Contents (Elt F) VO1_4.ty)
    (u : ℕ) (p : Fin 16) (k : Fin 512) (hu : 16 * u + p.val < 512) : ∀ t ≤ 32, u < t →
    VO1_4.read (Elt F) (VO1_4.writes (Elt F) f
        (st_k1_t1 (F := F) Variants.none c none a0 h0 a1 h1 a2 h2 a3 h3 a4 h4 a5 h5 w X (k1_pay2, k1_pay3) t).2)
        (ix2 ⟨16 * u + p.val, hu⟩ k)
      = (carried w (a5.view.read (Elt F) X) (u + 1)).1 (ix2 p k)
  | 0, _, h => absurd h (Nat.not_lt_zero _)
  | t + 1, h, hut => by
    have e := st_k1_t1_succ (F := F) Variants.none c none a0 h0 a1 h1 a2 h2 a3 h3 a4 h4 a5 h5 w X (k1_pay2, k1_pay3) ⟨t, by rw [trips32]; omega⟩
    have hc := carried_eq c a0 h0 a1 h1 a2 h2 a3 h3 a4 h4 a5 h5 w X t (by omega)
    rw [e]
    dsimp only
    rw [hc]
    unfold tripL_k1_t1 trip_k1_t1
    dsimp only
    rw [load_rows, List.singleton_append]
    by_cases hlast : u = t
    · subst hlast
      exact View.read_writes_cons_rows_of_mem VO1_4 f _ _ _ _ (ix2 p k) (off2_eq _) rfl rfl
    · rw [View.read_writes_cons_rows_of_not_mem VO1_4 f _ _ _ _ (off2_eq _) rfl (Or.inl (by
        show 16 * u + p.val < 16 * t
        have := p.isLt; omega))]
      exact pieces_apply w X f u p k hu t (by omega) (by omega)

/-- What the body leaves in the output's buffer, at row `p` of trip `u`. -/
theorem out_apply (x0 : Vec F S512x512 .f32) (x1 x2 : Vec F S512x2048 .f32) (x3 : Vec F S1x2048 .f32)
    (u : ℕ) (p : Fin 16) (k : Fin 512) (hu : 16 * u + p.val < 512) :
    out1_A_4 c a0 h0 a1 h1 a2 h2 a3 h3 a4 h4 a5 h5 x0 x1 x2 x3 (ix2 ⟨16 * u + p.val, hu⟩ k)
      = (carried x2 (k1_pay1 x0 x1 x3) (u + 1)).1 (ix2 p k) := by
  unfold out1_A_4
  unfold kernelRun1_A
  dsimp only
  sl_unfold_words
  simp only [View.readAt_eq_ld, h0.read_unread, h1.read_unread, h2.read_unread, h3.read_unread, View.ld_unit_zero (S := S512x512) hz2,
    View.ld_unit_zero (S := S512x2048) hz2, View.ld_unit_zero (S := S1x2048) hz2]
  rw [show Scf.trips (0#32) (Scalar.addi 0#32 32#32) 1#32 = 32 from trips32]
  refine (pieces_apply c a0 h0 a1 h1 a2 h2 a3 h3 a4 h4 a5 h5 x2 _ _ u p k hu 32 le_rfl (by omega)).trans ?_
  rw [show a5.view.read (Elt F) (a5.view.writes (Elt F) a5.view.junk
      [⟨Rect.unit (s := S512x2048) ![0, 0] S512x2048.size inb_S512x2048_S512x2048_0_0, k1_pay1 x0 x1 x3⟩]) = k1_pay1 x0 x1 x3 from
    View.read_writes_full a5.view _ inb_S512x2048_S512x2048_0_0 _ []]

end Cert.Lstm
end
-- ==== Proof.LstmCell.lean ====
/- The values of call 1's loop, entry by entry: the hidden and the cell rows it carries are the LSTM's of each player. -/
module

public import proofs.«01_k».proof.Proof.LstmPoint

@[expose] public section

noncomputable section

namespace Cert.Lstm

open Cert.KernelIdeal Cert.KernelIdeal.Gen Cert.Maths
open Idealize.ShloMosaic

/-- One gate before its squashing: 512 columns of the input gates and the hidden rows times the same columns of the matrix. -/
def pre (o : ℕ) (hw : S512x2048.Slices ![0, o] S512x512) (hx : S16x2048.Slices ![0, o] S16x512)
    (w : FVec Ideal S512x2048 .f32) (h : FVec Ideal S16x512 .f32) (z : FVec Ideal S16x2048 .f32) : FVec Ideal S16x512 .f32 :=
  addf (extractStridedSlice S16x512 ![0, o] z hx)
    (matmul dot_S16x512_S512x512_S16x512_1_0_0_1_n_n none h (extractStridedSlice S512x512 ![0, o] w hw) (constant S16x512 .f32 0x00000000#32))

/-- The new cell rows, gate by gate. -/
theorem cell_eq (w : FVec Ideal S512x2048 .f32) (h c : FVec Ideal S16x512 .f32) (z : FVec Ideal S16x2048 .f32) :
    k1_pay4 (F := Ideal) w h c z = addf
      (mulf (logistic (pre 512 slices_S512x2048_o0_512_S512x512 slices_S16x2048_o0_512_S16x512 w h z)) c)
      (mulf (logistic (pre 0 slices_S512x2048_o0_0_S512x512 slices_S16x2048_o0_0_S16x512 w h z))
        (tanh (pre 1024 slices_S512x2048_o0_1024_S512x512 slices_S16x2048_o0_1024_S16x512 w h z))) := rfl

/-- The new hidden rows. -/
theorem hidden_eq (w : FVec Ideal S512x2048 .f32) (h c : FVec Ideal S16x512 .f32) (z : FVec Ideal S16x2048 .f32) :
    k1_pay5 (F := Ideal) w h c z
      = mulf (logistic (pre 1536 slices_S512x2048_o0_1536_S512x512 slices_S16x2048_o0_1536_S16x512 w h z)) (tanh (k1_pay4 (F := Ideal) w h c z)) := rfl

/-- A gate at an entry: the column `o + k` of the input gates and of the hidden row times the matrix. -/
theorem pre_apply (o : ℕ) (hw : S512x2048.Slices ![0, o] S512x512) (hx : S16x2048.Slices ![0, o] S16x512)
    (w : FVec Ideal S512x2048 .f32) (h : FVec Ideal S16x512 .f32) (z : FVec Ideal S16x2048 .f32) (p : Fin 16) (k : Fin 512)
    (hk : o + k.val < 2048) :
    pre o hw hx w h z (ix2 p k) = z (ix2 p ⟨o + k.val, hk⟩) + dense (fun a => h (ix2 p a)) (fun a j => w (ix2 a j)) ⟨o + k.val, hk⟩ := by
  pointwise [pre]
  rfl

/-- The input gates: the pooled rows times their matrix, and the shift. -/
theorem pay1_apply (x : FVec Ideal S512x512 .f32) (w : FVec Ideal S512x2048 .f32) (b : FVec Ideal S1x2048 .f32) (r : Fin 512) (j : Fin 2048) :
    k1_pay1 (F := Ideal) x w b (ix2 r j) = dense (fun a => x (ix2 r a)) (fun a j => w (ix2 a j)) j + b (ix2 0 j) := by
  pointwise [k1_pay1]
  rfl

/-- The input rows of player `p`, step by step: row `16 t + p` of the pooled rows. -/
def steps (x : FVec Ideal S512x512 .f32) (p : Fin 16) (t : ℕ) : Fin 512 → EReal :=
  fun a => x (ix2 ⟨(16 * t + p.val) % 512, Nat.mod_lt _ (by decide)⟩ a)

/-- The cell row's entry from the gates' row `z`, whichever way that is spelt out. -/
theorem cell_apply (w : FVec Ideal S512x2048 .f32) (h c : FVec Ideal S16x512 .f32) (z : FVec Ideal S16x2048 .f32) (p : Fin 16) (k : Fin 512) :
    k1_pay4 (F := Ideal) w h c z (ix2 p k)
      = cell (fun j => z (ix2 p j) + dense (fun a => h (ix2 p a)) (fun a j => w (ix2 a j)) j) (fun k => c (ix2 p k)) k := by
  have hk := k.isLt
  rw [cell_eq]
  show sigm (pre _ _ _ _ _ _ _) * c _ + sigm (pre _ _ _ _ _ _ _) * Ideal.tanh (pre _ _ _ _ _ _ _) = _
  rw [pre_apply _ _ _ _ _ _ _ _ (by omega), pre_apply _ _ _ _ _ _ _ _ (by omega), pre_apply _ _ _ _ _ _ _ _ (by omega)]
  rfl

/-- An entry of the new hidden state. -/
theorem hidden_apply (w : FVec Ideal S512x2048 .f32) (h c : FVec Ideal S16x512 .f32) (z : FVec Ideal S16x2048 .f32) (p : Fin 16) (k : Fin 512) :
    k1_pay5 (F := Ideal) w h c z (ix2 p k)
      = hidden (fun j => z (ix2 p j) + dense (fun a => h (ix2 p a)) (fun a j => w (ix2 a j)) j) (fun k => c (ix2 p k)) k := by
  have hk := k.isLt
  rw [hidden_eq]
  show sigm (pre _ _ _ _ _ _ _) * Ideal.tanh (k1_pay4 (F := Ideal) w h c z _) = _
  rw [pre_apply _ _ _ _ _ _ _ _ (by omega), cell_apply]
  rfl

/-- The loop carries each player's LSTM state. The kernel adds the shift to the input's product before the hidden row's, which
    makes no difference to the sum. -/
theorem carried_apply (x : FVec Ideal S512x512 .f32) (wi wh : FVec Ideal S512x2048 .f32) (b : FVec Ideal S1x2048 .f32) (p : Fin 16) : ∀ t,
    (fun k => (carried (F := Ideal) wh (k1_pay1 (F := Ideal) x wi b) t).1 (ix2 p k), fun k => (carried (F := Ideal) wh (k1_pay1 (F := Ideal) x wi b) t).2 (ix2 p k))
      = lstm (fun a j => wi (ix2 a j)) (fun a j => wh (ix2 a j)) (fun j => b (ix2 0 j)) (steps x p) t
  | 0 => by
    refine Prod.ext (funext fun k => ?_) (funext fun k => ?_) <;>
      exact (show Ideal.ofBits .f32 0x00000000#32 = 0 by simp [Ideal.ofBits, Ideal.ieee])
  | t + 1 => by
    have ih := carried_apply x wi wh b p t
    have ih1 := congrArg Prod.fst ih
    have ih2 := congrArg Prod.snd ih
    dsimp only at ih1 ih2
    have hz : (fun j => rows (F := Ideal) (k1_pay1 (F := Ideal) x wi b) t (ix2 p j)
          + dense (fun a => (carried (F := Ideal) wh (k1_pay1 (F := Ideal) x wi b) t).1 (ix2 p a)) (fun a j => wh (ix2 a j)) j)
        = gate (fun a j => wi (ix2 a j)) (fun a j => wh (ix2 a j)) (fun j => b (ix2 0 j)) (steps x p t)
            (lstm (fun a j => wi (ix2 a j)) (fun a j => wh (ix2 a j)) (fun j => b (ix2 0 j)) (steps x p) t).1 := by
      funext j
      rw [ih1]
      show k1_pay1 (F := Ideal) x wi b (ix2 _ j) + _ = _
      rw [pay1_apply, add_right_comm]
      rfl
    refine Prod.ext (funext fun k => ?_) (funext fun k => ?_)
    · show k1_pay5 (F := Ideal) wh _ _ _ (ix2 p k) = _
      rw [hidden_apply, hz, ih2]; rfl
    · show k1_pay4 (F := Ideal) wh _ _ _ (ix2 p k) = _
      rw [cell_apply, hz, ih2]; rfl

end Cert.Lstm
end
-- ==== Proof.KernelValue.lean ====
/- The result of the kernel's run: at step `t`, player `p` and column `k` the hidden row of that player's LSTM after step `t`,
   run over the pooled rows. -/
module

public import proofs.«01_k».proof.Proof.PoolArray
public import proofs.«01_k».proof.Proof.LstmCell

@[expose] public section

set_option maxRecDepth 16384

noncomputable section

namespace Cert.KernelValue

open Cert.KernelIdeal Cert.KernelIdeal.Gen Cert.KernelIdeal.Whole Cert.Maths
open Idealize.ShloMosaic Idealize.ShloMosaic.TcCoe Idealize.ShloMosaic.Tactic Idealize.SL.Sem
open Idealize.ShloMosaic.Pipeline (Dat)

/-! ## The array call 1 leaves -/

section Array

variable {F : FTy → Type} [FloatOps F]
variable (V : (c : Dev nD) → (b : Ref sig .tc) → Buf (Elt F) ((c : Thread nD τ).loc b)) (c : Dev nD)

/-- Every window reads its array whole. -/
theorem read_pooled (t : Fin cfg1.N) : (iblk1 V c 0 t : Vec F S512x512 .f32) = V c main_v5 :=
  Memref.read_access_unit_zero (Elt F) main_v5 (funext fun a => Nat.zero_mul _) (fun a => by simp) (V c main_v5)

/-- The input weights. -/
theorem read_wi (t : Fin cfg1.N) : (iblk1 V c 1 t : Vec F S512x2048 .f32) = V c main_arg8 :=
  Memref.read_access_unit_zero (Elt F) main_arg8 (funext fun a => Nat.zero_mul _) (fun a => by simp) (V c main_arg8)

/-- The recurrent weights. -/
theorem read_wh (t : Fin cfg1.N) : (iblk1 V c 2 t : Vec F S512x2048 .f32) = V c main_arg9 :=
  Memref.read_access_unit_zero (Elt F) main_arg9 (funext fun a => Nat.zero_mul _) (fun a => by simp) (V c main_arg9)

/-- The shift. -/
theorem read_b (t : Fin cfg1.N) : (iblk1 V c 3 t : Vec F S1x2048 .f32) = V c main_v6 :=
  Memref.read_access_unit_zero (Elt F) main_v6 (funext fun a => Nat.zero_mul _) (fun a => by simp) (V c main_v6)

/-- The number of points is 1. -/
theorem points : cfg1.N = 1 := by decide +kernel

/-- The one point. -/
def only : Fin cfg1.N := ⟨0, by rw [points]; decide⟩

/-- Call 1 leaves in its array what its one point left in the buffer. -/
theorem arr_eq : (dat1 V c).arrAt 4 cfg1.N = outsAt1 V c only := by
  refine (dat1 V c).arrAt_eq_of_cover 4 (outsAt1 V c only) (fun t _ => ?_) fun i => ⟨only, flush1_4 only, ?_⟩
  · obtain rfl : t = only := Fin.ext (by have h : t.val < 1 := Nat.lt_of_lt_of_eq t.isLt points; show t.val = 0; omega)
    show (cfg1.win 4).cut (grid1.coords only) ((dat1 V c).after 4 only) = _
    rw [after1_4]
    exact (Memref.read_access_unit_zero (Elt F) main_v7 (funext fun a => Nat.zero_mul _) (fun a => by simp) (outsAt1 V c only)).symm
  · show i ∈ ((View.whole main_v7).slice (win1_4.rect only)).set
    rw [View.set_slice_whole, Rect.mem_set_unit]
    intro a
    have e : win1_4.index only a * win1_4.size a = 0 := Nat.zero_mul _
    have e' : win1_4.xsize (grid1.coords only) a = main_v7.ty.shape.size a := by revert a; decide +kernel
    show win1_4.index only a * win1_4.size a ≤ (i a : Nat) ∧ (i a : Nat) < win1_4.index only a * win1_4.size a + win1_4.xsize (grid1.coords only) a
    rw [e, e']
    exact ⟨Nat.zero_le _, by rw [Nat.zero_add]; exact (i a).isLt⟩

end Array

/-! ## The result -/

variable (m : (ℓ : Loc nD τ sig) → Buf (Elt Ideal) ℓ) (ρ : Dev nD → PrngReg) (c : Dev nD)

/-- The shift of the gates, laid out as a row. -/
theorem entry_b : V3 m ρ c main_v6 = shapeCast S1x2048 (m ((c : Thread nD τ).loc main_arg10)) shapeCasts_S2048_S1x2048 := by
  show StableHlo.after hostOps1 _ _ = _
  simp only [hostOps1]; after_reads_simp
  rw [W2_args m ρ c main_arg10 (by decide)]
  rfl

/-- A row laid out as a matrix of one row. -/
theorem one_row2048 (x : FVec Ideal S2048 .f32) (k : Fin 2048) : shapeCast S1x2048 x shapeCasts_S2048_S1x2048 (ix2 0 k) = x (ix1 k) := by
  pointwise

/-- The result is call 1's array laid out in steps, players and columns. -/
theorem result_eq : W5 m ρ c (Proc.devRef .tc main_v8) = shapeCast S32x16x512 (W4 m ρ c (Proc.devRef .tc main_v7)) shapeCasts_S512x512_S32x16x512 := by
  show StableHlo.after hostOps2 _ _ = _
  simp only [hostOps2]; after_reads_simp; rfl

/-- An array of 512 rows laid out in 32 steps of 16 players, at an entry. -/
theorem by_step (x : FVec Ideal S512x512 .f32) (t : Fin 32) (p : Fin 16) (k : Fin 512) :
    shapeCast S32x16x512 x shapeCasts_S512x512_S32x16x512 (ix3 t p k) = x (ix2 ⟨16 * t.val + p.val, by omega⟩ k) := by
  refine shapeCast_apply _ _ _ _ ?_
  rw [rowMajor_val2 _ 512 rfl, rowMajor_val3 _ 8192 512 rfl rfl]
  show (16 * t.val + p.val) * 512 + k.val = t.val * 8192 + p.val * 512 + k.val
  omega

/-- The pooled row `s`, of @main's arguments. -/
def pooledRow (s : Fin 512) : Fin 512 → EReal :=
  fun k => pooled (fun R : Fin (8 * 4096) => m ((c : Thread nD τ).loc main_arg1) (ix1 R)) (Pool.row m c) s k

/-- What the kernel computes, at step `t`, player `p` and column `k`. -/
theorem result_apply (hg : ∀ k, Finite (m ((c : Thread nD τ).loc main_arg6) (ix1 k)))
    (hb : ∀ k, Finite (m ((c : Thread nD τ).loc main_arg7) (ix1 k))) (t : Fin 32) (p : Fin 16) (k : Fin 512) :
    W5 m ρ c (Proc.devRef .tc main_v8) (ix3 t p k)
      = (lstm (fun a j => m ((c : Thread nD τ).loc main_arg8) (ix2 a j)) (fun a j => m ((c : Thread nD τ).loc main_arg9) (ix2 a j))
          (fun j => m ((c : Thread nD τ).loc main_arg10) (ix1 j))
          (fun u => pooledRow m c ⟨(16 * u + p.val) % 512, Nat.mod_lt _ (by decide)⟩) (t.val + 1)).1 k := by
  have e4 : W4 m ρ c (Proc.devRef .tc main_v7) = outsAt1 (V3 m ρ) c only := (W4_arr m ρ c 4).trans (arr_eq (V3 m ρ) c)
  have e8 : V3 m ρ c main_arg8 = m ((c : Thread nD τ).loc main_arg8) := W3_args m ρ c main_arg8 (by decide)
  have e9 : V3 m ρ c main_arg9 = m ((c : Thread nD τ).loc main_arg9) := W3_args m ρ c main_arg9 (by decide)
  have e5 : V3 m ρ c main_v5 = W2 m ρ c (Proc.devRef .tc main_v5) := W3_of m ρ c main_v5 (by decide)
  rw [result_eq, by_step, e4]
  unfold outsAt1
  rw [Lstm.out_apply, read_pooled, read_wi, read_wh, read_b, entry_b, e8, e9, e5]
  refine (congrFun (congrArg Prod.fst (Lstm.carried_apply _ _ _ _ p (t.val + 1))) k).trans ?_
  have es : Lstm.steps (W2 m ρ c (Proc.devRef .tc main_v5)) p = fun u => pooledRow m c ⟨(16 * u + p.val) % 512, Nat.mod_lt _ (by decide)⟩ :=
    funext fun u => funext fun a => Pool.arr_apply m ρ c hg hb _ a
  have eb : (fun j => shapeCast S1x2048 (m ((c : Thread nD τ).loc main_arg10)) shapeCasts_S2048_S1x2048 (ix2 0 j))
      = fun j => m ((c : Thread nD τ).loc main_arg10) (ix1 j) := funext fun j => one_row2048 _ j
  rw [es, eb]

end Cert.KernelValue
end
-- ==== Proof.RefEmbed.lean ====
/- What the reference computes for each row of observations, read entry by entry: its chain of host operations is the row's
   embedding. The two widths, 256 and 512, are the widths of the two layers. -/
module

public import proofs.«01_k».proof.Proof.Gen.ReferenceIdeal
public import proofs.«01_k».proof.Proof.Maths
public import Idealize.ShloMosaic.Lib.Pointwise

@[expose] public section

noncomputable section

namespace Cert.RefEmbed

open Cert.ReferenceIdeal Cert.ReferenceIdeal.Gen Cert.Maths
open Idealize.ShloMosaic

/-- The literal 256.0 is the real number 256. -/
theorem lit_256 : Ideal.ofBits .f32 0x43800000#32 = ((256 : ℝ) : EReal) := by
  simp [Ideal.ofBits, Ideal.ieee, -EReal.coe_mul]; norm_num

/-- A real literal less the number zero is itself. -/
theorem count_eq {l : BitVec 32} {N : ℝ} (h : Ideal.ofBits .f32 l = (N : EReal)) :
    Ideal.ofBits .f32 l - FloatOps.sitofp (F := Ideal) .f32 0#32 = Ideal.ofBits .f32 l := by
  show Ideal.ofBits .f32 l - (((0#32 : BitVec 32).toInt : ℝ) : EReal) = _
  rw [h, ← EReal.coe_sub]; simp

/-- A word that stands for a positive real is positive. -/
theorem lit_pos {l : BitVec 32} {N : ℝ} (h : Ideal.ofBits .f32 l = (N : EReal)) (hN : 0 < N) : 0 < Ideal.ofBits .f32 l := by
  rw [h]; exact EReal.coe_pos.mpr hN

/-- The leaky rectifier of the rows of width 256. -/
def leaky256 (h : FVec Ideal S32768x256 .f32) : FVec Ideal S32768x256 .f32 :=
  select (cmpf .oge h (broadcastInDim S32768x256 ![] bcast_S_S32768x256 (constant S_ .f32 0x00000000#32))) h
    (mulf (broadcastInDim S32768x256 ![] bcast_S_S32768x256 (constant S_ .f32 0x3DCCCCCD#32)) h)

/-- The sums of the rows of width 256, as a column. -/
def sum256 (h : FVec Ideal S32768x256 .f32) : FVec Ideal S32768x1 .f32 :=
  broadcastInDim S32768x1 ![0] bcast_S32768_S32768x1_0 (Host.reduceAdd h (constant S_ .f32 0x00000000#32) reducesTo_S32768x256_S32768_d1 h_S_)

/-- The means of the rows of width 256. -/
def mean256 (h : FVec Ideal S32768x256 .f32) : FVec Ideal S32768x1 .f32 :=
  Host.divf (sum256 h) (broadcastInDim S32768x1 ![] bcast_S_S32768x1 (constant S_ .f32 0x43800000#32))

/-- The distances from the means of the rows of width 256. -/
def dist256 (h : FVec Ideal S32768x256 .f32) : FVec Ideal S32768x256 .f32 :=
  subf h (broadcastInDim S32768x256 ![0, 1] bcast_S32768x1_S32768x256_0_1 (mean256 h))

/-- The number a row of width 256 is divided by: its width less the zero degrees of freedom taken off. -/
def count256 : FVec Ideal S_ .f32 := subf (constant S_ .f32 0x43800000#32) (sitofp .f32 (constantI S_ 32 0#32))

/-- The variances of the rows of width 256: a number where the count is positive, and no number elsewhere. -/
def var256 (h : FVec Ideal S32768x256 .f32) : FVec Ideal S32768x1 .f32 :=
  select (broadcastInDim S32768x1 ![] bcast_S_S32768x1 (cmpf .ogt count256 (constant S_ .f32 0x00000000#32)))
    (Host.divf (sum256 (mulf (dist256 h) (dist256 h))) (broadcastInDim S32768x1 ![] bcast_S_S32768x1 count256))
    (broadcastInDim S32768x1 ![] bcast_S_S32768x1 (constant S_ .f32 0x7FC00000#32))

/-- The layer normalisation of the rows of width 256. -/
def norm256 (h : FVec Ideal S32768x256 .f32) (g b : FVec Ideal S256 .f32) : FVec Ideal S32768x256 .f32 :=
  addf (mulf (Host.divf (dist256 h)
      (broadcastInDim S32768x256 ![0, 1] bcast_S32768x1_S32768x256_0_1
        (Host.sqrt (addf (var256 h) (broadcastInDim S32768x1 ![] bcast_S_S32768x1 (constant S_ .f32 0x3727C5AC#32))))))
      (broadcastInDim S32768x256 ![0, 1] bcast_S1x256_S32768x256_0_1 (broadcastInDim S1x256 ![1] bcast_S256_S1x256_1 g)))
    (broadcastInDim S32768x256 ![0, 1] bcast_S1x256_S32768x256_0_1 (broadcastInDim S1x256 ![1] bcast_S256_S1x256_1 b))

/-- An entry of the leaky ReLU on 256 columns. -/
theorem leaky256_apply (h : FVec Ideal S32768x256 .f32) (r : Fin 32768) (k : Fin 256) : leaky256 h (ix2 r k) = leaky (h (ix2 r k)) := by
  pointwise [leaky256]; rfl

/-- The sum of a row on 256 columns. -/
theorem sum256_apply (h : FVec Ideal S32768x256 .f32) (r : Fin 32768) : sum256 h (ix2 r 0) = ∑ k : Fin 256, (h (ix2 r k) : EReal) := by
  pointwise [sum256]

/-- The mean of a row on 256 columns. -/
theorem mean256_apply (h : FVec Ideal S32768x256 .f32) (r : Fin 32768) :
    mean256 h (ix2 r 0) = mean (Ideal.ofBits .f32 0x43800000#32) fun k => h (ix2 r k) := by
  pointwise [mean256, sum256_apply]; rfl

/-- An entry less its row's mean on 256 columns. -/
theorem dist256_apply (h : FVec Ideal S32768x256 .f32) (r : Fin 32768) (k : Fin 256) :
    dist256 h (ix2 r k) = h (ix2 r k) - mean (Ideal.ofBits .f32 0x43800000#32) fun a => h (ix2 r a) := by
  pointwise [dist256, mean256_apply]

/-- The variance of a row on 256 columns. -/
theorem var256_apply (h : FVec Ideal S32768x256 .f32) (r : Fin 32768) :
    var256 h (ix2 r 0) = variance (Ideal.ofBits .f32 0x43800000#32) fun a => h (ix2 r a) := by
  pointwise [var256, count256, sum256_apply, dist256_apply]
  rw [count_eq lit_256]
  exact if_pos (lit_pos lit_256 (by norm_num))

/-- An entry of the normalisation on 256 columns. -/
theorem norm256_apply (h : FVec Ideal S32768x256 .f32) (g b : FVec Ideal S256 .f32) (r : Fin 32768) (k : Fin 256) :
    norm256 h g b (ix2 r k) = lnorm (Ideal.ofBits .f32 0x43800000#32) (fun a => h (ix2 r a)) (fun a => g (ix1 a)) (fun a => b (ix1 a)) k := by
  pointwise [norm256, dist256_apply, var256_apply]; rfl

/-- The leaky rectifier of the rows of width 512. -/
def leaky512 (h : FVec Ideal S32768x512 .f32) : FVec Ideal S32768x512 .f32 :=
  select (cmpf .oge h (broadcastInDim S32768x512 ![] bcast_S_S32768x512 (constant S_ .f32 0x00000000#32))) h
    (mulf (broadcastInDim S32768x512 ![] bcast_S_S32768x512 (constant S_ .f32 0x3DCCCCCD#32)) h)

/-- The sums of the rows of width 512, as a column. -/
def sum512 (h : FVec Ideal S32768x512 .f32) : FVec Ideal S32768x1 .f32 :=
  broadcastInDim S32768x1 ![0] bcast_S32768_S32768x1_0 (Host.reduceAdd h (constant S_ .f32 0x00000000#32) reducesTo_S32768x512_S32768_d1 h_S_)

/-- The means of the rows of width 512. -/
def mean512 (h : FVec Ideal S32768x512 .f32) : FVec Ideal S32768x1 .f32 :=
  Host.divf (sum512 h) (broadcastInDim S32768x1 ![] bcast_S_S32768x1 (constant S_ .f32 0x44000000#32))

/-- The distances from the means of the rows of width 512. -/
def dist512 (h : FVec Ideal S32768x512 .f32) : FVec Ideal S32768x512 .f32 :=
  subf h (broadcastInDim S32768x512 ![0, 1] bcast_S32768x1_S32768x512_0_1 (mean512 h))

/-- The number a row of width 512 is divided by: its width less the zero degrees of freedom taken off. -/
def count512 : FVec Ideal S_ .f32 := subf (constant S_ .f32 0x44000000#32) (sitofp .f32 (constantI S_ 32 0#32))

/-- The variances of the rows of width 512: a number where the count is positive, and no number elsewhere. -/
def var512 (h : FVec Ideal S32768x512 .f32) : FVec Ideal S32768x1 .f32 :=
  select (broadcastInDim S32768x1 ![] bcast_S_S32768x1 (cmpf .ogt count512 (constant S_ .f32 0x00000000#32)))
    (Host.divf (sum512 (mulf (dist512 h) (dist512 h))) (broadcastInDim S32768x1 ![] bcast_S_S32768x1 count512))
    (broadcastInDim S32768x1 ![] bcast_S_S32768x1 (constant S_ .f32 0x7FC00000#32))

/-- The layer normalisation of the rows of width 512. -/
def norm512 (h : FVec Ideal S32768x512 .f32) (g b : FVec Ideal S512 .f32) : FVec Ideal S32768x512 .f32 :=
  addf (mulf (Host.divf (dist512 h)
      (broadcastInDim S32768x512 ![0, 1] bcast_S32768x1_S32768x512_0_1
        (Host.sqrt (addf (var512 h) (broadcastInDim S32768x1 ![] bcast_S_S32768x1 (constant S_ .f32 0x3727C5AC#32))))))
      (broadcastInDim S32768x512 ![0, 1] bcast_S1x512_S32768x512_0_1 (broadcastInDim S1x512 ![1] bcast_S512_S1x512_1 g)))
    (broadcastInDim S32768x512 ![0, 1] bcast_S1x512_S32768x512_0_1 (broadcastInDim S1x512 ![1] bcast_S512_S1x512_1 b))

/-- An entry of the leaky ReLU on 512 columns. -/
theorem leaky512_apply (h : FVec Ideal S32768x512 .f32) (r : Fin 32768) (k : Fin 512) : leaky512 h (ix2 r k) = leaky (h (ix2 r k)) := by
  pointwise [leaky512]; rfl

/-- The sum of a row on 512 columns. -/
theorem sum512_apply (h : FVec Ideal S32768x512 .f32) (r : Fin 32768) : sum512 h (ix2 r 0) = ∑ k : Fin 512, (h (ix2 r k) : EReal) := by
  pointwise [sum512]

/-- The mean of a row on 512 columns. -/
theorem mean512_apply (h : FVec Ideal S32768x512 .f32) (r : Fin 32768) :
    mean512 h (ix2 r 0) = mean (Ideal.ofBits .f32 0x44000000#32) fun k => h (ix2 r k) := by
  pointwise [mean512, sum512_apply]; rfl

/-- An entry less its row's mean on 512 columns. -/
theorem dist512_apply (h : FVec Ideal S32768x512 .f32) (r : Fin 32768) (k : Fin 512) :
    dist512 h (ix2 r k) = h (ix2 r k) - mean (Ideal.ofBits .f32 0x44000000#32) fun a => h (ix2 r a) := by
  pointwise [dist512, mean512_apply]

/-- The variance of a row on 512 columns. -/
theorem var512_apply (h : FVec Ideal S32768x512 .f32) (r : Fin 32768) :
    var512 h (ix2 r 0) = variance (Ideal.ofBits .f32 0x44000000#32) fun a => h (ix2 r a) := by
  pointwise [var512, count512, sum512_apply, dist512_apply]
  rw [count_eq lit_512]
  exact if_pos (lit_pos lit_512 (by norm_num))

/-- An entry of the normalisation on 512 columns. -/
theorem norm512_apply (h : FVec Ideal S32768x512 .f32) (g b : FVec Ideal S512 .f32) (r : Fin 32768) (k : Fin 512) :
    norm512 h g b (ix2 r k) = lnorm (Ideal.ofBits .f32 0x44000000#32) (fun a => h (ix2 r a)) (fun a => g (ix1 a)) (fun a => b (ix1 a)) k := by
  pointwise [norm512, dist512_apply, var512_apply]; rfl

/-- The embeddings of the rows, by the reference's operations. -/
def embedded (x : FVec Ideal S32768x128 .f32) (w₁ : FVec Ideal S128x256 .f32) (g₁ b₁ : FVec Ideal S256 .f32)
    (w₂ : FVec Ideal S256x512 .f32) (g₂ b₂ : FVec Ideal S512 .f32) : FVec Ideal S32768x512 .f32 :=
  norm512 (leaky512 (Host.dotGeneral dot_S32768x256_S256x512_S32768x512_1_0_0_1_n_n none
    (norm256 (leaky256 (Host.dotGeneral dot_S32768x128_S128x256_S32768x256_1_0_0_1_n_n none x w₁)) g₁ b₁) w₂)) g₂ b₂

/-- An entry of the first dense layer. -/
theorem dot256_apply (x : FVec Ideal S32768x128 .f32) (w : FVec Ideal S128x256 .f32) (r : Fin 32768) (k : Fin 256) :
    Host.dotGeneral (F := Ideal) dot_S32768x128_S128x256_S32768x256_1_0_0_1_n_n none x w (ix2 r k) = dense (fun a => x (ix2 r a)) (fun a k => w (ix2 a k)) k := by
  pointwise; rfl

/-- An entry of the second dense layer. -/
theorem dot512_apply (x : FVec Ideal S32768x256 .f32) (w : FVec Ideal S256x512 .f32) (r : Fin 32768) (k : Fin 512) :
    Host.dotGeneral (F := Ideal) dot_S32768x256_S256x512_S32768x512_1_0_0_1_n_n none x w (ix2 r k) = dense (fun a => x (ix2 r a)) (fun a k => w (ix2 a k)) k := by
  pointwise; rfl

/-- A row's embedding. -/
theorem embedded_apply (x : FVec Ideal S32768x128 .f32) (w₁ : FVec Ideal S128x256 .f32) (g₁ b₁ : FVec Ideal S256 .f32)
    (w₂ : FVec Ideal S256x512 .f32) (g₂ b₂ : FVec Ideal S512 .f32) (r : Fin 32768) (k : Fin 512) :
    embedded x w₁ g₁ b₁ w₂ g₂ b₂ (ix2 r k)
      = embed (fun a k => w₁ (ix2 a k)) (fun k => g₁ (ix1 k)) (fun k => b₁ (ix1 k)) (fun a k => w₂ (ix2 a k)) (fun k => g₂ (ix1 k)) (fun k => b₂ (ix1 k))
          (Ideal.ofBits .f32 0x43800000#32) (Ideal.ofBits .f32 0x44000000#32) (fun a => x (ix2 r a)) k := by
  unfold embedded embed
  simp only [norm512_apply, leaky512_apply, dot512_apply, norm256_apply, leaky256_apply, dot256_apply]

end Cert.RefEmbed
-- ==== Proof.RefEntry.lean ====
/- What the reference's loop starts from. -/
module

public import proofs.«01_k».proof.Proof.Gen.ReferenceIdeal.Run
public import proofs.«01_k».proof.Proof.RefEmbed
public import Idealize.ShloMosaic.Lib.StableHlo.RunRead

@[expose] public section

noncomputable section

namespace Cert.RefEntry

open Cert.ReferenceIdeal Cert.ReferenceIdeal.Gen Cert.ReferenceIdeal.Value Cert.Maths
open Idealize.ShloMosaic Idealize.ShloMosaic.TcCoe Idealize.ShloMosaic.StableHlo

variable (m : (ℓ : Loc nD τ sig) → Buf (Elt Ideal) ℓ) (c : Dev nD)

/-- The rows pooled by segment, laid out in steps, players and columns. -/
theorem entry_0 : entryContents preI m c (Proc.devRef .tc main_v55_0)
    = shapeCast S32x16x512 (Host.scatterAdd (F := Ideal) (φ := .f32) scatter_S512x512_S32768x1_S32768x512_1_0_0_1
        (broadcastInDim S512x512 ![] bcast_S_S512x512 (constant (F := Ideal) S_ .f32 0x00000000#32))
        (broadcastInDim S32768x1 ![0] bcast_S32768_S32768x1_0 (m ((c.tc : Thread nD τ).loc main_arg1)))
        (RefEmbed.embedded (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))))
        shapeCasts_S512x512_S32x16x512 := by
  simp only [entryContents, afterL_cons, afterL_nil]
  after_reads_simp
  rfl

/-- The weights of the recurrence, the counter at zero, and zero rows in the state and in the result. -/
theorem entry_1 : entryContents preI m c (Proc.devRef .tc main_v55_1) = m ((c.tc : Thread nD τ).loc main_arg8) := by
  simp only [entryContents, afterL_cons, afterL_nil]; after_reads_simp; rfl

/-- The recurrent weights enter the loop as they were given. -/
theorem entry_2 : entryContents preI m c (Proc.devRef .tc main_v55_2) = m ((c.tc : Thread nD τ).loc main_arg9) := by
  simp only [entryContents, afterL_cons, afterL_nil]; after_reads_simp; rfl

/-- So does the shift. -/
theorem entry_3 : entryContents preI m c (Proc.devRef .tc main_v55_3) = m ((c.tc : Thread nD τ).loc main_arg10) := by
  simp only [entryContents, afterL_cons, afterL_nil]; after_reads_simp; rfl

/-- The hidden state enters the loop at zero. -/
theorem entry_5 : entryContents preI m c (Proc.devRef .tc main_v55_5)
    = broadcastInDim S16x512 ![] bcast_S_S16x512 (constant (F := Ideal) S_ .f32 0x00000000#32) := by
  simp only [entryContents, afterL_cons, afterL_nil]; after_reads_simp; rfl

/-- So does the cell state. -/
theorem entry_6 : entryContents preI m c (Proc.devRef .tc main_v55_6)
    = broadcastInDim S16x512 ![] bcast_S_S16x512 (constant (F := Ideal) S_ .f32 0x00000000#32) := by
  simp only [entryContents, afterL_cons, afterL_nil]; after_reads_simp; rfl

end Cert.RefEntry
-- ==== Proof.RefCell.lean ====
/- One step of the reference's recurrence, read entry by entry: its gates, its cell rows and its hidden rows are the LSTM
   cell's of each player. -/
module

public import proofs.«01_k».proof.Proof.Gen.ReferenceIdeal.Run
public import proofs.«01_k».proof.Proof.Maths
public import Idealize.ShloMosaic.Lib.Pointwise
public import Idealize.ShloMosaic.Lib.WordCmp

@[expose] public section

noncomputable section

namespace Cert.RefCell

open Cert.ReferenceIdeal Cert.ReferenceIdeal.Gen Cert.ReferenceIdeal.Value Cert.Maths
open Idealize.ShloMosaic

/-- The gates' rows of one step, from the input rows and the hidden rows. -/
def gates (x h : FVec Ideal S16x512 .f32) (wi wh : FVec Ideal S512x2048 .f32) (b : FVec Ideal S2048 .f32) : FVec Ideal S16x2048 .f32 :=
  addf (addf (Host.dotGeneral dot_S16x512_S512x2048_S16x2048_1_0_0_1_n_n none x wi) (Host.dotGeneral dot_S16x512_S512x2048_S16x2048_1_0_0_1_n_n none h wh))
    (broadcastInDim S16x2048 ![0, 1] bcast_S1x2048_S16x2048_0_1 (broadcastInDim S1x2048 ![1] bcast_S2048_S1x2048_1 b))

/-- An entry of the gates of a step. -/
theorem gates_apply (x h : FVec Ideal S16x512 .f32) (wi wh : FVec Ideal S512x2048 .f32) (b : FVec Ideal S2048 .f32) (p : Fin 16) (j : Fin 2048) :
    gates x h wi wh b (ix2 p j)
      = gate (fun a j => wi (ix2 a j)) (fun a j => wh (ix2 a j)) (fun j => b (ix1 j)) (fun a => x (ix2 p a)) (fun a => h (ix2 p a)) j := by
  pointwise [gates]
  rfl

/-- An entry of the 512 columns from column `o` on. -/
theorem slice_apply (o : ℕ) (ho : S16x2048.Slices ![0, o] S16x512) (z : FVec Ideal S16x2048 .f32) (p : Fin 16) (k : Fin 512) (hk : o + k.val < 2048) :
    extractStridedSlice S16x512 ![0, o] z ho (ix2 p k) = z (ix2 p ⟨o + k.val, hk⟩) := by
  pointwise

/-- The logistic function of one gate's columns, from column `o` on. -/
def squash (o : ℕ) (ho : S16x2048.Slices ![0, o] S16x512) (z : FVec Ideal S16x2048 .f32) : FVec Ideal S16x512 .f32 :=
  Host.divf (broadcastInDim S16x512 ![] bcast_S_S16x512 (constant S_ .f32 0x3F800000#32))
    (addf (broadcastInDim S16x512 ![] bcast_S_S16x512 (constant S_ .f32 0x3F800000#32)) (Host.exp (Host.negf (extractStridedSlice S16x512 ![0, o] z ho))))

/-- An entry of the logistic of those columns. -/
theorem squash_apply (o : ℕ) (ho : S16x2048.Slices ![0, o] S16x512) (z : FVec Ideal S16x2048 .f32) (p : Fin 16) (k : Fin 512) (hk : o + k.val < 2048) :
    squash o ho z (ix2 p k) = sigm (z (ix2 p ⟨o + k.val, hk⟩)) := by
  pointwise [squash]
  rfl

/-- The new cell rows. -/
def cells (z : FVec Ideal S16x2048 .f32) (c : FVec Ideal S16x512 .f32) : FVec Ideal S16x512 .f32 :=
  addf (mulf (squash 512 slices_S16x2048_S16x512_0_512 z) c)
    (mulf (squash 0 slices_S16x2048_S16x512_0_0 z) (Host.tanh (extractStridedSlice S16x512 ![0, 1024] z slices_S16x2048_S16x512_0_1024)))

/-- The new hidden rows. -/
def hiddens (z : FVec Ideal S16x2048 .f32) (c : FVec Ideal S16x512 .f32) : FVec Ideal S16x512 .f32 :=
  mulf (squash 1536 slices_S16x2048_S16x512_0_1536 z) (Host.tanh (cells z c))

/-- An entry of the new cell state. -/
theorem cells_apply (z : FVec Ideal S16x2048 .f32) (c : FVec Ideal S16x512 .f32) (p : Fin 16) (k : Fin 512) :
    cells z c (ix2 p k) = cell (fun j => z (ix2 p j)) (fun k => c (ix2 p k)) k := by
  have hk := k.isLt
  show squash _ _ _ _ * c _ + squash _ _ _ _ * Ideal.tanh (extractStridedSlice S16x512 ![0, 1024] z slices_S16x2048_S16x512_0_1024 (ix2 p k)) = _
  rw [squash_apply _ _ _ _ _ (by omega), squash_apply _ _ _ _ _ (by omega), slice_apply _ _ _ _ _ (by omega)]
  rfl

/-- An entry of the new hidden state. -/
theorem hiddens_apply (z : FVec Ideal S16x2048 .f32) (c : FVec Ideal S16x512 .f32) (p : Fin 16) (k : Fin 512) :
    hiddens z c (ix2 p k) = hidden (fun j => z (ix2 p j)) (fun k => c (ix2 p k)) k := by
  have hk := k.isLt
  show squash _ _ _ _ * Ideal.tanh (cells z c (ix2 p k)) = _
  rw [squash_apply _ _ _ _ _ (by omega), cells_apply]
  rfl

/-- The input rows of step `t`, as the reference slices them out. -/
def rowsOf (x : FVec Ideal S32x16x512 .f32) (t : IVec S_ 32) : FVec Ideal S16x512 .f32 :=
  shapeCast S16x512 (Host.dynamicSlice S1x16x512 x
    (fun k => (((![t, constantI S_ 32 0#32, constantI S_ 32 0#32] : Fin 3 → (⟨S_, .i32⟩ : BufTy).Contents (Elt Ideal))) k (Shape.Idx.first h_S_)).toInt)
    sliceFits_S32x16x512_S1x16x512) shapeCasts_S1x16x512_S16x512

/-- The result with step `t`'s hidden rows written, as the reference writes them. -/
def written (y : FVec Ideal S32x16x512 .f32) (h : FVec Ideal S16x512 .f32) (t : IVec S_ 32) : FVec Ideal S32x16x512 .f32 :=
  Host.dynamicUpdateSlice y (broadcastInDim S1x16x512 ![1, 2] bcast_S16x512_S1x16x512_1_2 h)
    (fun k => (((![t, constantI S_ 32 0#32, constantI S_ 32 0#32] : Fin 3 → (⟨S_, .i32⟩ : BufTy).Contents (Elt Ideal))) k (Shape.Idx.first h_S_)).toInt)
    updateFits_S32x16x512_S1x16x512

/-- Where step `t` reads and writes. -/
theorem start_eq (t : Fin 32) (a : Fin 3) :
    (((![(fun _ => BitVec.ofNat 32 t.val), constantI S_ 32 0#32, constantI S_ 32 0#32] : Fin 3 → (⟨S_, .i32⟩ : BufTy).Contents (Elt Ideal))) a
      (Shape.Idx.first h_S_)).toInt = ((![t.val, 0, 0] : Fin 3 → ℕ) a : Int) := by
  have ht := t.isLt
  fin_cases a
  · show (BitVec.ofNat 32 t.val).toInt = (t.val : Int)
    rw [BitVec.toInt_ofNat', Int.bmod_eq_of_le (by omega) (by omega)]
  · rfl
  · rfl

/-- Step `t`'s rows lie inside the array. -/
theorem fits (t : Fin 32) : S32x16x512.Slices ![t.val, 0, 0] S1x16x512 :=
  ⟨rfl, fun a => by have := t.isLt; fin_cases a <;> simp [S32x16x512, S1x16x512] <;> omega⟩

/-- An entry of step `t`'s rows. -/
theorem rowsOf_apply (x : FVec Ideal S32x16x512 .f32) (t : Fin 32) (p : Fin 16) (k : Fin 512) :
    rowsOf x (fun _ => BitVec.ofNat 32 t.val) (ix2 p k) = x (ix3 t p k) := by
  unfold rowsOf
  rw [WordCmp.dynamicSlice_eq_extract S1x16x512 x _ _ ![t.val, 0, 0] (fits t) (start_eq t)]
  pointwise

/-- An entry of the array after step `t`'s rows are written. -/
theorem written_apply (y : FVec Ideal S32x16x512 .f32) (h : FVec Ideal S16x512 .f32) (t u : Fin 32) (p : Fin 16) (k : Fin 512) :
    written y h (fun _ => BitVec.ofNat 32 t.val) (ix3 u p k) = if u = t then h (ix2 p k) else y (ix3 u p k) := by
  unfold written
  rw [WordCmp.dynamicUpdateSlice_eq_update y _ _ _ ![t.val, 0, 0] (fits t) (start_eq t)]
  pointwise
  by_cases e : u = t
  · subst e; rw [dif_pos ⟨Nat.le_refl _, Nat.lt_succ_self _⟩, if_pos rfl]
  · rw [dif_neg fun hh => e (Fin.ext (by omega)), if_neg e]

end Cert.RefCell
-- ==== Proof.RefPool.lean ====
/- The reference's segment sum, read entry by entry: row `s` of the scattered array is the sum of the update rows whose index
   word is `s`; a row whose word names no segment is dropped. -/
module

public import proofs.«01_k».proof.Proof.Gen.ReferenceIdeal
public import proofs.«01_k».proof.Proof.Maths
public import Idealize.ShloMosaic.Lib.Pointwise
public import Idealize.ShloMosaic.Lib.ValueIdxCore
public import Idealize.ShloMosaic.Lib.Routing.OpsPair

@[expose] public section

noncomputable section

namespace Cert.RefPool

open Cert.ReferenceIdeal Cert.ReferenceIdeal.Gen Cert.Maths
open Idealize.ShloMosaic

/-- The dimension numbers of the scatter: an update row goes to the operand row its index word names. -/
abbrev dims : ScatterDims S512x512 S32768x1 S32768x512 := scatter_S512x512_S32768x1_S32768x512_1_0_0_1

variable (idx : IVec S32768x1 32) (R : Fin 32768) (k : Fin 512)

/-- An entry is added into the row its segment id names. -/
theorem start_row : dims.start (ix2 R k) idx 0 = (idx (ix2 R 0)).toInt := by
  have e : dims.siIdx (ix2 R k) ⟨0, by decide⟩ = ix2 R (0 : Fin 1) := by
    funext b; fin_cases b <;> rfl
  exact (show dims.start (ix2 R k) idx 0 = (idx (dims.siIdx (ix2 R k) ⟨0, by decide⟩)).toInt from rfl).trans (by rw [e])

/-- At the first column. -/
theorem start_col : dims.start (ix2 R k) idx 1 = 0 := rfl
/-- Its place in the window: no row further. -/
theorem window_row : dims.window (ix2 R k) 0 = 0 := rfl
/-- And `k` columns further. -/
theorem window_col : dims.window (ix2 R k) 1 = k.val := rfl

/-- A word read signed is a number below 512 exactly when it is that number's word. -/
theorem toInt_eq_iff (w : BitVec 32) (s : Fin 512) : w.toInt = (s.val : Int) ↔ w = BitVec.ofNat 32 s.val := by
  have e : (BitVec.ofNat 32 s.val).toInt = (s.val : Int) := by
    rw [BitVec.toInt_ofNat']
    have := s.isLt
    rw [Int.bmod_eq_of_le (by omega) (by omega)]
  exact ⟨fun h => BitVec.eq_of_toInt_eq (h.trans e.symm), fun h => h ▸ e⟩

/-- Where an update entry lands. -/
theorem lands (s k' : Fin 512) : dims.resultIdx? (ix2 R k') idx = some (ix2 s k) ↔ idx (ix2 R 0) = BitVec.ofNat 32 s.val ∧ k' = k := by
  have h := Routing.resultIdx?_ix2 dims (ix2 R k') idx s k
  rw [start_row, start_col, window_row, window_col] at h
  refine h.trans ?_
  rw [← toInt_eq_iff, Fin.ext_iff]
  constructor <;> rintro ⟨a, b⟩ <;> constructor <;> omega

/-- The scattered sum over zeros, at an entry. -/
theorem scatter_apply (x : FVec Ideal S512x512 .f32) (upd : FVec Ideal S32768x512 .f32) (hx : ∀ i, x i = (0 : EReal)) (s : Fin 512) :
    Host.scatterAdd (F := Ideal) (φ := .f32) dims x idx upd (ix2 s k)
      = pooled (fun R => idx (ix2 R 0)) (fun R k => upd (ix2 R k)) s k := by
  show (x (ix2 s k) : EReal) + ∑ j ∈ Finset.univ.filter (fun j => dims.resultIdx? j idx = some (ix2 s k)), (upd j : EReal) = _
  rw [hx, zero_add, Finset.sum_filter, ← ValueIdx.idxEquiv2.symm.sum_comp, Fintype.sum_prod_type]
  refine Finset.sum_congr rfl fun R _ => ?_
  have e : ∀ k' : Fin 512, (if dims.resultIdx? (ValueIdx.idxEquiv2.symm (R, k')) idx = some (ix2 s k) then (upd (ValueIdx.idxEquiv2.symm (R, k')) : EReal) else 0)
      = if k' = k then (if idx (ix2 R 0) = BitVec.ofNat 32 s.val then (upd (ix2 R k) : EReal) else 0) else 0 := fun k' => by
    have l := lands idx R k s k'
    show (if dims.resultIdx? (ix2 R k') idx = some (ix2 s k) then (upd (ix2 R k') : EReal) else 0) = _
    by_cases h : k' = k
    · subst h; simp only [l, and_true, if_true]
    · simp only [l, h, and_false, if_false]
  rw [Finset.sum_congr rfl fun k' _ => e k', Finset.sum_ite_eq' Finset.univ k, if_pos (Finset.mem_univ k)]

end Cert.RefPool
-- ==== Proof.RefLoop.lean ====
/- The reference's loop and its result: before step `t` the loop carries each player's LSTM state, and the result's rows of the
   steps before it are the hidden rows. -/
module

public import proofs.«01_k».proof.Proof.RefEntry
public import proofs.«01_k».proof.Proof.RefCell
public import proofs.«01_k».proof.Proof.RefPool

@[expose] public section

noncomputable section

namespace Cert.RefLoop

open Cert.ReferenceIdeal Cert.ReferenceIdeal.Gen Cert.ReferenceIdeal.Value Cert.Maths
open Idealize.ShloMosaic Idealize.ShloMosaic.TcCoe Idealize.ShloMosaic.StableHlo

variable (m : (ℓ : Loc nD τ sig) → Buf (Elt Ideal) ℓ) (c : Dev nD)

/-! ## What the loop starts from -/

/-- The embedding of row `R`, of @main's arguments. -/
def row (R : Fin 32768) : Fin 512 → EReal :=
  embed (fun a k => m ((c.tc : Thread nD τ).loc main_arg2) (ix2 a k)) (fun k => m ((c.tc : Thread nD τ).loc main_arg3) (ix1 k))
    (fun k => m ((c.tc : Thread nD τ).loc main_arg4) (ix1 k)) (fun a k => m ((c.tc : Thread nD τ).loc main_arg5) (ix2 a k))
    (fun k => m ((c.tc : Thread nD τ).loc main_arg6) (ix1 k)) (fun k => m ((c.tc : Thread nD τ).loc main_arg7) (ix1 k))
    (Ideal.ofBits .f32 0x43800000#32) (Ideal.ofBits .f32 0x44000000#32) (fun a => m ((c.tc : Thread nD τ).loc main_arg0) (ix2 R a))

/-- The pooled row `s`, of @main's arguments. -/
def pooledRow (s : Fin 512) : Fin 512 → EReal :=
  fun k => pooled (fun R : Fin 32768 => m ((c.tc : Thread nD τ).loc main_arg1) (ix1 R)) (row m c) s k

/-- An array of 512 rows laid out in 32 steps of 16 players, at an entry. -/
theorem by_step (x : FVec Ideal S512x512 .f32) (t : Fin 32) (p : Fin 16) (k : Fin 512) :
    shapeCast S32x16x512 x shapeCasts_S512x512_S32x16x512 (ix3 t p k) = x (ix2 ⟨16 * t.val + p.val, by omega⟩ k) := by
  refine shapeCast_apply _ _ _ _ ?_
  rw [rowMajor_val2 _ 512 rfl, rowMajor_val3 _ 8192 512 rfl rfl]
  show (16 * t.val + p.val) * 512 + k.val = t.val * 8192 + p.val * 512 + k.val
  omega

/-- The segment ids laid out as a column. -/
theorem index_apply (x : IVec S32768 32) (R : Fin 32768) : broadcastInDim S32768x1 ![0] bcast_S32768_S32768x1_0 x (ix2 R 0) = x (ix1 R) := by
  pointwise

/-- The array the embeddings are added into is zero. -/
theorem zeros_apply (i : S512x512.Idx) :
    broadcastInDim S512x512 ![] bcast_S_S512x512 (constant (F := Ideal) S_ .f32 0x00000000#32) i = (0 : EReal) :=
  show Ideal.ofBits .f32 0x00000000#32 = 0 by simp [Ideal.ofBits, Ideal.ieee]

/-- The array the loop reads its input rows from holds the pooled rows. -/
theorem input_apply (t : Fin 32) (p : Fin 16) (k : Fin 512) :
    entryContents preI m c (Proc.devRef .tc main_v55_0) (ix3 t p k) = pooledRow m c ⟨16 * t.val + p.val, by omega⟩ k := by
  rw [RefEntry.entry_0, by_step]
  refine (RefPool.scatter_apply _ k _ _ zeros_apply _).trans ?_
  have e1 : (fun R => broadcastInDim S32768x1 ![0] bcast_S32768_S32768x1_0 (m ((c.tc : Thread nD τ).loc main_arg1)) (ix2 R 0))
      = fun R : Fin 32768 => m ((c.tc : Thread nD τ).loc main_arg1) (ix1 R) := funext fun R => index_apply _ R
  have e2 : (fun (R : Fin 32768) (k : Fin 512) => (RefEmbed.embedded (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) (ix2 R k) : EReal))
      = row m c := funext fun R => funext fun k => RefEmbed.embedded_apply _ _ _ _ _ _ _ R k
  rw [e1, e2]
  rfl

/-! ## The loop -/

/-- The carried buffers before step `t`. -/
def before (t : ℕ) : Valuation τ sig (Elt Ideal) := STEP^[t] (entryContents preI m c)

/-- One step more. -/
theorem before_succ (t : ℕ) : before m c (t + 1) = STEP (before m c t) := Function.iterate_succ_apply' STEP t _

/-- The input rows and the weights stay what they were. -/
theorem before_0 : ∀ t, before m c t (Proc.devRef .tc main_v55_0) = entryContents preI m c (Proc.devRef .tc main_v55_0)
  | 0 => rfl
  | t + 1 => by rw [before_succ, STEP_main_v55_0, before_0 t]

/-- So do the input weights. -/
theorem before_1 : ∀ t, before m c t (Proc.devRef .tc main_v55_1) = m ((c.tc : Thread nD τ).loc main_arg8)
  | 0 => RefEntry.entry_1 m c
  | t + 1 => by rw [before_succ, STEP_main_v55_1, before_1 t]

/-- So do the recurrent weights. -/
theorem before_2 : ∀ t, before m c t (Proc.devRef .tc main_v55_2) = m ((c.tc : Thread nD τ).loc main_arg9)
  | 0 => RefEntry.entry_2 m c
  | t + 1 => by rw [before_succ, STEP_main_v55_2, before_2 t]

/-- So does the shift. -/
theorem before_3 : ∀ t, before m c t (Proc.devRef .tc main_v55_3) = m ((c.tc : Thread nD τ).loc main_arg10)
  | 0 => RefEntry.entry_3 m c
  | t + 1 => by rw [before_succ, STEP_main_v55_3, before_3 t]

/-- The counter counts the steps. -/
theorem before_4 : ∀ t, before m c t (Proc.devRef .tc main_v55_4) = fun _ => BitVec.ofNat 32 t
  | 0 => ctr_entry m c
  | t + 1 => by
    rw [before_succ, STEP_main_v55_4, step_main_v55_4, before_4 t]
    exact funext fun _ => (BitVec.ofNat_add t 1).symm

/-- The input rows of player `p`, step by step. -/
def steps (p : Fin 16) (t : ℕ) : Fin 512 → EReal := pooledRow m c ⟨(16 * t + p.val) % 512, Nat.mod_lt _ (by decide)⟩

/-- The LSTM of player `p` over the pooled rows. -/
def state (p : Fin 16) : ℕ → (Fin 512 → EReal) × (Fin 512 → EReal) :=
  lstm (fun a j => m ((c.tc : Thread nD τ).loc main_arg8) (ix2 a j)) (fun a j => m ((c.tc : Thread nD τ).loc main_arg9) (ix2 a j))
    (fun j => m ((c.tc : Thread nD τ).loc main_arg10) (ix1 j)) (steps m c p)

/-- The gates' rows of step `t`. -/
def z (t : ℕ) : FVec Ideal S16x2048 .f32 :=
  RefCell.gates (RefCell.rowsOf (before m c t (Proc.devRef .tc main_v55_0)) (before m c t (Proc.devRef .tc main_v55_4)))
    (before m c t (Proc.devRef .tc main_v55_5)) (before m c t (Proc.devRef .tc main_v55_1)) (before m c t (Proc.devRef .tc main_v55_2))
    (before m c t (Proc.devRef .tc main_v55_3))

/-- The step's new cell state. -/
theorem cells_eq (t : ℕ) : res_main_while0b_v88 (before m c t) = RefCell.cells (z m c t) (before m c t (Proc.devRef .tc main_v55_6)) := rfl

/-- The step's new hidden state. -/
theorem hiddens_eq (t : ℕ) : res_main_while0b_v90 (before m c t) = RefCell.hiddens (z m c t) (before m c t (Proc.devRef .tc main_v55_6)) := rfl

/-- The gates' row of player `p` at step `t`, from the state before it. -/
theorem z_apply (t : Fin 32) (p : Fin 16) (j : Fin 2048) (h : ∀ k, before m c t (Proc.devRef .tc main_v55_5) (ix2 p k) = (state m c p t).1 k) :
    z m c t (ix2 p j) = gate (fun a j => m ((c.tc : Thread nD τ).loc main_arg8) (ix2 a j)) (fun a j => m ((c.tc : Thread nD τ).loc main_arg9) (ix2 a j))
      (fun j => m ((c.tc : Thread nD τ).loc main_arg10) (ix1 j)) (steps m c p t) (state m c p t).1 j := by
  have ht := t.isLt
  have hp := p.isLt
  unfold z
  rw [RefCell.gates_apply, before_0, before_1, before_2, before_3, before_4]
  have e1 : (fun a => (RefCell.rowsOf (entryContents preI m c (Proc.devRef .tc main_v55_0)) (fun _ => BitVec.ofNat 32 t.val) (ix2 p a) : EReal)) = steps m c p t :=
    funext fun a => by
      rw [RefCell.rowsOf_apply, input_apply]
      exact congrArg (fun s => pooledRow m c s a) (Fin.ext (Nat.mod_eq_of_lt (by omega)).symm)
  have e2 : (fun a => (before m c t (Proc.devRef .tc main_v55_5) (ix2 p a) : EReal)) = (state m c p t).1 := funext h
  exact congrArg₂ (fun x y => gate _ _ _ x y j) e1 e2

/-- Before step `t` the loop carries each player's state. -/
theorem carried : ∀ t ≤ 32, ∀ (p : Fin 16) (k : Fin 512),
    before m c t (Proc.devRef .tc main_v55_5) (ix2 p k) = (state m c p t).1 k ∧ before m c t (Proc.devRef .tc main_v55_6) (ix2 p k) = (state m c p t).2 k
  | 0, _, p, k => by
    have e : Ideal.ofBits .f32 0x00000000#32 = (0 : EReal) := by simp [Ideal.ofBits, Ideal.ieee]
    exact ⟨(congrFun (RefEntry.entry_5 m c) (ix2 p k)).trans e, (congrFun (RefEntry.entry_6 m c) (ix2 p k)).trans e⟩
  | t + 1, h, p, k => by
    have ih := carried t (by omega) p
    have hz : (fun j => (z m c t (ix2 p j) : EReal)) = _ := funext fun j => z_apply m c ⟨t, by omega⟩ p j fun k => (ih k).1
    have hc : (fun k => (before m c t (Proc.devRef .tc main_v55_6) (ix2 p k) : EReal)) = (state m c p t).2 := funext fun k => (ih k).2
    rw [before_succ, STEP_main_v55_5, STEP_main_v55_6]
    constructor
    · show res_main_while0b_v90 (before m c t) (ix2 p k) = _
      rw [hiddens_eq, RefCell.hiddens_apply, hz, hc]; rfl
    · show res_main_while0b_v88 (before m c t) (ix2 p k) = _
      rw [cells_eq, RefCell.cells_apply, hz, hc]; rfl

/-- The result's rows of the steps before `t` are the hidden rows after each step. -/
theorem written : ∀ t ≤ 32, ∀ (u : Fin 32), u.val < t → ∀ (p : Fin 16) (k : Fin 512),
    before m c t (Proc.devRef .tc main_v55_7) (ix3 u p k) = (state m c p (u.val + 1)).1 k
  | 0, _, u, h, _, _ => absurd h (Nat.not_lt_zero _)
  | t + 1, ht, u, hu, p, k => by
    have hh := (carried m c (t + 1) ht p k).1
    rw [before_succ, STEP_main_v55_5] at hh
    rw [before_succ, STEP_main_v55_7]
    show RefCell.written (before m c t (Proc.devRef .tc main_v55_7)) (res_main_while0b_v90 (before m c t)) (before m c t (Proc.devRef .tc main_v55_4)) (ix3 u p k) = _
    rw [before_4]
    refine (RefCell.written_apply _ _ ⟨t, by omega⟩ u p k).trans ?_
    by_cases e : u = ⟨t, by omega⟩
    · rw [if_pos e, e]; exact hh
    · rw [if_neg e]
      exact written t (by omega) u (by have : u.val ≠ t := fun h => e (Fin.ext h); omega) p k

/-- What the reference computes, at step `t`, player `p` and column `k`. -/
theorem result_apply (t : Fin 32) (p : Fin 16) (k : Fin 512) :
    (STEP^[32] (entryContents preI m c)) (Proc.devRef .tc main_v55_7) (ix3 t p k) = (state m c p (t.val + 1)).1 k :=
  written m c 32 (Nat.le_refl _) t t.isLt p k

end Cert.RefLoop
-- ==== Proof.Equation.lean ====
/- The equation of the two programs: each one's result is the same function of the arguments, under the precondition that the
   scale and the shift of the second layer normalisation are finite. -/
module

public import proofs.«01_k».proof.Defs
public import proofs.«01_k».proof.Proof.KernelValue
public import proofs.«01_k».proof.Proof.RefLoop

@[expose] public section

noncomputable section

namespace Cert.Equation

open Cert.Maths
open Idealize.ShloMosaic Idealize.ShloMosaic.TcCoe

/-- The result at step `t`, player `p` and column `k`, as a function of the eleven arguments: the LSTM of player `p` over the
    rows `16 u + p` of the embeddings pooled by segment. -/
def result (x : FVec Ideal KernelIdeal.S32768x128 .f32) (seg : IVec KernelIdeal.S32768 32) (w₁ : FVec Ideal KernelIdeal.S128x256 .f32)
    (g₁ b₁ : FVec Ideal KernelIdeal.S256 .f32) (w₂ : FVec Ideal KernelIdeal.S256x512 .f32) (g₂ b₂ : FVec Ideal KernelIdeal.S512 .f32)
    (wi wh : FVec Ideal KernelIdeal.S512x2048 .f32) (b : FVec Ideal KernelIdeal.S2048 .f32) (t : Fin 32) (p : Fin 16) (k : Fin 512) : EReal :=
  (lstm (fun a j => wi (ix2 a j)) (fun a j => wh (ix2 a j)) (fun j => b (ix1 j))
    (fun u k => pooled (fun R : Fin 32768 => seg (ix1 R))
      (fun R => embed (fun a k => w₁ (ix2 a k)) (fun k => g₁ (ix1 k)) (fun k => b₁ (ix1 k)) (fun a k => w₂ (ix2 a k)) (fun k => g₂ (ix1 k))
        (fun k => b₂ (ix1 k)) (Ideal.ofBits .f32 0x43800000#32) (Ideal.ofBits .f32 0x44000000#32) (fun a => x (ix2 R a)))
      (⟨(16 * u + p.val) % 512, Nat.mod_lt _ (by decide)⟩ : Fin 512) k) (t.val + 1)).1 k

/-! ## The precondition -/

/-- The side condition of the precondition's operations. -/
theorem pre_facts : Cert.Pre_finite_scale_and_shift.Facts := ⟨by decide⟩

/-- An extended real whose absolute value is below infinity is finite. -/
theorem finite_of_lt {x : EReal} (h : max x (-x) < ⊤) : Finite x :=
  ⟨fun e => by rw [e] at h; exact absurd h (by simp), fun e => by rw [e] at h; exact absurd h (by simp)⟩

/-- The word of positive infinity. -/
theorem lit_inf : Ideal.ofBits .f32 0x7F800000#32 = ⊤ := by
  simp [Ideal.ofBits, Ideal.ieee]

/-- A row whose absolute values all compare below infinity is finite. -/
theorem finite_of_below (x : FVec Ideal KernelIdeal.S512 .f32) {k : Fin 512}
    (h : Ideal.cmp .olt (max (x (ix1 k)) (-(x (ix1 k)))) (Ideal.ofBits .f32 0x7F800000#32) = 1#1) : Finite (x (ix1 k)) := by
  refine finite_of_lt ?_
  rw [lit_inf] at h
  by_contra hn
  rw [show Ideal.cmp .olt (max (x (ix1 k)) (-(x (ix1 k)))) ⊤ = BitVec.ofBool (decide (max (x (ix1 k)) (-(x (ix1 k))) < (⊤ : EReal))) from rfl,
    decide_eq_false hn] at h
  exact absurd h (by decide)

/-- The precondition makes the scale and the shift of the second layer normalisation finite. -/
theorem finite_of_pre [Cert.Pre_finite_scale_and_shift.Facts] (m : (ℓ : Loc KernelIdeal.nD KernelIdeal.τ KernelIdeal.sig) → Buf (Elt Ideal) ℓ)
    (h : Cert.Pre_KernelIdeal_finite_scale_and_shift m) (c : Dev KernelIdeal.nD) (k : Fin 512) :
    Finite (m ((c.tc : Thread KernelIdeal.nD KernelIdeal.τ).loc KernelIdeal.main_arg6) (ix1 k))
      ∧ Finite (m ((c.tc : Thread KernelIdeal.nD KernelIdeal.τ).loc KernelIdeal.main_arg7) (ix1 k)) :=
  ⟨finite_of_below _ (congrFun (h c).1 (ix1 k)), finite_of_below _ (congrFun (h c).2 (ix1 k))⟩

/-! ## The two results -/

section Kernel

open Cert.KernelIdeal

/-- The kernel's result is that function of its arguments. -/
theorem kernel (m : (ℓ : Loc nD τ sig) → Buf (Elt Ideal) ℓ) (ρ : Dev nD → PrngReg) (c : Dev nD)
    (hg : ∀ k, Finite (m ((c.tc : Thread nD τ).loc main_arg6) (ix1 k))) (hb : ∀ k, Finite (m ((c.tc : Thread nD τ).loc main_arg7) (ix1 k)))
    (t : Fin 32) (p : Fin 16) (k : Fin 512) :
    Whole.W5 m ρ c (Proc.devRef .tc main_v8) (ix3 t p k)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) t p k :=
  KernelValue.result_apply m ρ c hg hb t p k

end Kernel

section Reference

open Cert.ReferenceIdeal Cert.ReferenceIdeal.Gen Cert.ReferenceIdeal.Value Idealize.ShloMosaic.StableHlo

/-- The reference's result is the same function of its own. -/
theorem reference (m : (ℓ : Loc nD τ sig) → Buf (Elt Ideal) ℓ) (c : Dev nD) (t : Fin 32) (p : Fin 16) (k : Fin 512) :
    (STEP^[32] (entryContents preI m c)) (Proc.devRef .tc main_v55_7) (ix3 t p k)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) t p k :=
  RefLoop.result_apply m c t p k

end Reference

/-- So from equal arguments the two programs end with equal results. -/
theorem result_eq [Cert.Pre_finite_scale_and_shift.Facts] (m : (ℓ : Loc KernelIdeal.nD KernelIdeal.τ KernelIdeal.sig) → Buf (Elt Ideal) ℓ)
    (ρ : Dev KernelIdeal.nD → PrngReg) (m' : (ℓ : Loc ReferenceIdeal.nD ReferenceIdeal.τ ReferenceIdeal.sig) → Buf (Elt Ideal) ℓ)
    (h : Cert.Pre_KernelIdeal_finite_scale_and_shift m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10)) :
    (ReferenceIdeal.Value.STEP^[32] (StableHlo.entryContents ReferenceIdeal.Value.preI m' c)) (Proc.devRef .tc ReferenceIdeal.main_v55_7)
      = KernelIdeal.Whole.W5 m ρ c (Proc.devRef .tc KernelIdeal.main_v8) := by
  funext i
  have hi : i = ix3 (i 0) (i 1) (i 2) := ValueIdx.eq_ix3 i
  rw [hi]
  refine (reference m' c _ _ _).trans (Eq.trans ?_ (kernel m ρ c (fun k => (finite_of_pre m h c k).1) (fun k => (finite_of_pre m h c k).2) _ _ _).symm)
  rw [h0, h1, h2, h3, h4, h5, h6, h7, h8, h9, h10]

end Cert.Equation
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Equation

@[expose] public section

noncomputable section

namespace Cert.Proof

open Idealize.ShloMosaic Idealize.SL.Sem

/-- The kernel runs to the end without a fault, its arguments end as they were and its semaphore counters at zero. -/
theorem frame_kernel : Cert.quiescent_Kernel := fun m ρ _ => Cert.Kernel.Whole.frame m ρ

/-- The same of the kernel over the extended reals. -/
theorem frame_kernelIdeal : Cert.quiescent_KernelIdeal := fun m ρ _ => Cert.KernelIdeal.Whole.frame m ρ

/-- The same of the reference over the extended reals; it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the kernel and the reference, run on the same arguments with a finite scale and shift in the second
    layer normalisation, end with the same result. -/
theorem algebraic [Cert.Pre_finite_scale_and_shift.Facts] : Cert.algebraic_KernelIdeal_ReferenceIdeal_pre_finite_scale_and_shift :=
  fun m g m' g' hp ha =>
    ⟨fun c => Cert.KernelIdeal.Whole.W5 m g c (Proc.devRef .tc Cert.KernelIdeal.main_v8),
      (θ_run Cert.KernelIdeal.defs _ _).mono
        (fun r h c => ⟨h.1 c _ (Cert.KernelIdeal.Whole.mem_uc Cert.KernelIdeal.main_v8 (by decide)),
          Cert.KernelIdeal.Whole.args_of_run m g (h.1 c)⟩)
        (Cert.KernelIdeal.Whole.run m g),
      (θ_run Cert.ReferenceIdeal.defs _ _).mono
        (fun r h c => ⟨(h c).1.trans (by
          obtain ⟨h0, h1, h2, h3, h4, h5, h6, h7, h8, h9, h10⟩ := ha c
          exact Cert.Equation.result_eq m g m' hp c h0 h1 h2 h3 h4 h5 h6 h7 h8 h9 h10), (h c).2⟩)
        (Cert.ReferenceIdeal.Value.run (F := Ideal) m' g')⟩

theorem claim : Cert.Claim :=
  have hp := Cert.Equation.pre_facts
  ⟨Cert.Kernel.Gen.facts, Cert.KernelIdeal.Gen.facts, Cert.ReferenceIdeal.Gen.facts, hp,
    frame_kernel, frame_kernelIdeal, fun m ρ _ => frame_kernelIdeal m ρ trivial,
    frame_referenceIdeal, fun m ρ _ => frame_referenceIdeal m ρ trivial, trivial, algebraic⟩

end Cert.Proof

end
